-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v13)) (v6 : (c : Dev Cert.KernelIdeal.nD) → Buf (Elt Ideal) ((c.tc : Thread Cert.KernelIdeal.nD Cert.KernelIdeal.τ).loc Cert.KernelIdeal.main_v14)) (v7 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_v14) = v6 c
          ∧ r.2.mem ((c.tc : Thread Cert.KernelIdeal.nD Cert.KernelIdeal.τ).loc Cert.KernelIdeal.main_v17) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x5120 : Shape := ⟨3, ![4, 3072, 5120]⟩
abbrev S5120 : Shape := ⟨1, ![5120]⟩
abbrev S5120x3840 : Shape := ⟨2, ![5120, 3840]⟩
abbrev S3840 : Shape := ⟨1, ![3840]⟩
abbrev S12288x5120 : Shape := ⟨2, ![12288, 5120]⟩
abbrev S1x5120 : Shape := ⟨2, ![1, 5120]⟩
abbrev S12288x128 : Shape := ⟨2, ![12288, 128]⟩
abbrev S12288x3840 : Shape := ⟨2, ![12288, 3840]⟩
abbrev S8x3840 : Shape := ⟨2, ![8, 3840]⟩
abbrev S256x5120 : Shape := ⟨2, ![256, 5120]⟩
abbrev S256x128 : Shape := ⟨2, ![256, 128]⟩
abbrev S256x3840 : Shape := ⟨2, ![256, 3840]⟩
abbrev S32x256 : Shape := ⟨2, ![32, 256]⟩
abbrev S1x256 : Shape := ⟨2, ![1, 256]⟩
abbrev S32 : Shape := ⟨1, ![32]⟩
abbrev S32x1 : Shape := ⟨2, ![32, 1]⟩
abbrev S32x128 : Shape := ⟨2, ![32, 128]⟩
abbrev S256x1 : Shape := ⟨2, ![256, 1]⟩
abbrev S5120x768 : Shape := ⟨2, ![5120, 768]⟩
abbrev S256x768 : Shape := ⟨2, ![256, 768]⟩
abbrev S32x8x768 : Shape := ⟨3, ![32, 8, 768]⟩
abbrev S8x768 : Shape := ⟨2, ![8, 768]⟩
abbrev S1x3840 : Shape := ⟨2, ![1, 3840]⟩
abbrev S4x10x3072x128 : Shape := ⟨4, ![4, 10, 3072, 128]⟩
abbrev S30x128 : Shape := ⟨2, ![30, 128]⟩
abbrev S512x3840 : Shape := ⟨2, ![512, 3840]⟩
abbrev S1x10x512x128 : Shape := ⟨4, ![1, 10, 512, 128]⟩
abbrev S1x128 : Shape := ⟨2, ![1, 128]⟩
abbrev S8x128 : Shape := ⟨2, ![8, 128]⟩
abbrev S128 : Shape := ⟨1, ![128]⟩
abbrev S1 : Shape := ⟨1, ![1]⟩
abbrev S1x1 : Shape := ⟨2, ![1, 1]⟩
abbrev S512x128 : Shape := ⟨2, ![512, 128]⟩
abbrev S1x1x512x128 : Shape := ⟨4, ![1, 1, 512, 128]⟩
abbrev S30x1 : Shape := ⟨2, ![30, 1]⟩
abbrev S30 : Shape := ⟨1, ![30]⟩
abbrev S4x3072x10x128 : Shape := ⟨4, ![4, 3072, 10, 128]⟩
abbrev S10 : Shape := ⟨1, ![10]⟩
abbrev S12288x1 : Shape := ⟨2, ![12288, 1]⟩
abbrev S12288 : Shape := ⟨1, ![12288]⟩
abbrev S4x3072 : Shape := ⟨2, ![4, 3072]⟩

abbrev nBuf : Space → Nat
  | .hbm => 28
  | .vmem => 22
  | .smem => 0
  | _ => 0

abbrev bufTy : (tb : Table) → Fin (tcTables nBuf tb) → BufTy
  | .hbm, ⟨0, _⟩ => ⟨S4x3072x5120, .bf16⟩
  | .hbm, ⟨1, _⟩ => ⟨S5120, .bf16⟩
  | .hbm, ⟨2, _⟩ => ⟨S5120x3840, .fp8e4m3⟩
  | .hbm, ⟨3, _⟩ => ⟨S3840, .f32⟩
  | .hbm, ⟨4, _⟩ => ⟨S12288x5120, .bf16⟩
  | .hbm, ⟨5, _⟩ => ⟨S5120, .f32⟩
  | .hbm, ⟨6, _⟩ => ⟨S1x5120, .f32⟩
  | .hbm, ⟨7, _⟩ => ⟨S12288x5120, .fp8e4m3⟩
  | .hbm, ⟨8, _⟩ => ⟨S12288x128, .f32⟩
  | .hbm, ⟨9, _⟩ => ⟨S12288x3840, .f32⟩
  | .hbm, ⟨10, _⟩ => ⟨S8x3840, .f32⟩
  | .hbm, ⟨11, _⟩ => ⟨S1x3840, .f32⟩
  | .hbm, ⟨12, _⟩ => ⟨S4x10x3072x128, .fp8e4m3⟩
  | .hbm, ⟨13, _⟩ => ⟨S4x10x3072x128, .fp8e4m3⟩
  | .hbm, ⟨14, _⟩ => ⟨S4x10x3072x128, .fp8e4m3⟩
  | .hbm, ⟨15, _⟩ => ⟨S30x128, .f32⟩
  | .hbm, ⟨16, _⟩ => ⟨S30x1, .f32⟩
  | .hbm, ⟨17, _⟩ => ⟨S30, .f32⟩
  | .hbm, ⟨18, _⟩ => ⟨S4x3072x10x128, .fp8e4m3⟩
  | .hbm, ⟨19, _⟩ => ⟨S10, .f32⟩
  | .hbm, ⟨20, _⟩ => ⟨S4x3072x10x128, .fp8e4m3⟩
  | .hbm, ⟨21, _⟩ => ⟨S10, .f32⟩
  | .hbm, ⟨22, _⟩ => ⟨S4x3072x10x128, .fp8e4m3⟩
  | .hbm, ⟨23, _⟩ => ⟨S10, .f32⟩
  | .hbm, ⟨24, _⟩ => ⟨S4x3072x5120, .fp8e4m3⟩
  | .hbm, ⟨25, _⟩ => ⟨S12288x1, .f32⟩
  | .hbm, ⟨26, _⟩ => ⟨S12288, .f32⟩
  | .hbm, ⟨27, _⟩ => ⟨S4x3072, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S5120x3840, .fp8e4m3⟩
  | .local _ .vmem, ⟨4, _⟩ => ⟨S256x5120, .fp8e4m3⟩
  | .local _ .vmem, ⟨5, _⟩ => ⟨S256x5120, .fp8e4m3⟩
  | .local _ .vmem, ⟨6, _⟩ => ⟨S256x128, .f32⟩
  | .local _ .vmem, ⟨7, _⟩ => ⟨S256x128, .f32⟩
  | .local _ .vmem, ⟨8, _⟩ => ⟨S256x3840, .f32⟩
  | .local _ .vmem, ⟨9, _⟩ => ⟨S256x3840, .f32⟩
  | .local _ .vmem, ⟨10, _⟩ => ⟨S8x3840, .f32⟩
  | .local _ .vmem, ⟨11, _⟩ => ⟨S512x3840, .f32⟩
  | .local _ .vmem, ⟨12, _⟩ => ⟨S512x3840, .f32⟩
  | .local _ .vmem, ⟨13, _⟩ => ⟨S8x3840, .f32⟩
  | .local _ .vmem, ⟨14, _⟩ => ⟨S1x3840, .f32⟩
  | .local _ .vmem, ⟨15, _⟩ => ⟨S1x10x512x128, .fp8e4m3⟩
  | .local _ .vmem, ⟨16, _⟩ => ⟨S1x10x512x128, .fp8e4m3⟩
  | .local _ .vmem, ⟨17, _⟩ => ⟨S1x10x512x128, .fp8e4m3⟩
  | .local _ .vmem, ⟨18, _⟩ => ⟨S1x10x512x128, .fp8e4m3⟩
  | .local _ .vmem, ⟨19, _⟩ => ⟨S1x10x512x128, .fp8e4m3⟩
  | .local _ .vmem, ⟨20, _⟩ => ⟨S1x10x512x128, .fp8e4m3⟩
  | .local _ .vmem, ⟨21, _⟩ => ⟨S30x128, .f32⟩
  | _, _ => ⟨S4x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x3840 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_4 (i : grid1.Coords) : Fin 4 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_5 (i : grid1.Coords) : Fin 4 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x3840 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x3840 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3840 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x10x512x128 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x10x512x128 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x10x512x128 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S30x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S4x3072x5120 : Shape := ⟨3, ![4, 3072, 5120]⟩
abbrev S5120 : Shape := ⟨1, ![5120]⟩
abbrev S5120x3840 : Shape := ⟨2, ![5120, 3840]⟩
abbrev S3840 : Shape := ⟨1, ![3840]⟩
abbrev S4x3072x10x128 : Shape := ⟨4, ![4, 3072, 10, 128]⟩
abbrev S10 : Shape := ⟨1, ![10]⟩
abbrev S4x3072 : Shape := ⟨2, ![4, 3072]⟩
abbrev S4x3072x1 : Shape := ⟨3, ![4, 3072, 1]⟩
abbrev S1x1x5120 : Shape := ⟨3, ![1, 1, 5120]⟩
abbrev S12288x5120 : Shape := ⟨2, ![12288, 5120]⟩
abbrev S12288x1 : Shape := ⟨2, ![12288, 1]⟩
abbrev S5120x1280 : Shape := ⟨2, ![5120, 1280]⟩
abbrev S12288x1280 : Shape := ⟨2, ![12288, 1280]⟩
abbrev S1280 : Shape := ⟨1, ![1280]⟩
abbrev S1x1280 : Shape := ⟨2, ![1, 1280]⟩
abbrev S1x1x10x1 : Shape := ⟨4, ![1, 1, 10, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x3072x5120, .bf16⟩
  | .hbm, ⟨1, _⟩ => ⟨S5120, .bf16⟩
  | .hbm, ⟨2, _⟩ => ⟨S5120x3840, .fp8e4m3⟩
  | .hbm, ⟨3, _⟩ => ⟨S3840, .f32⟩
  | .hbm, ⟨4, _⟩ => ⟨S4x3072x10x128, .fp8e4m3⟩
  | .hbm, ⟨5, _⟩ => ⟨S10, .f32⟩
  | .hbm, ⟨6, _⟩ => ⟨S4x3072x10x128, .fp8e4m3⟩
  | .hbm, ⟨7, _⟩ => ⟨S10, .f32⟩
  | .hbm, ⟨8, _⟩ => ⟨S4x3072x10x128, .fp8e4m3⟩
  | .hbm, ⟨9, _⟩ => ⟨S10, .f32⟩
  | .hbm, ⟨10, _⟩ => ⟨S4x3072x5120, .fp8e4m3⟩
  | .hbm, ⟨11, _⟩ => ⟨S4x3072, .f32⟩
  | .local _ .vmem, ⟨0, _⟩ => ⟨S4x3072x5120, .bf16⟩
  | .local _ .vmem, ⟨1, _⟩ => ⟨S5120, .bf16⟩
  | .local _ .vmem, ⟨2, _⟩ => ⟨S5120x3840, .fp8e4m3⟩
  | .local _ .vmem, ⟨3, _⟩ => ⟨S3840, .f32⟩
  | .local _ .vmem, ⟨4, _⟩ => ⟨S4x3072x10x128, .fp8e4m3⟩
  | .local _ .vmem, ⟨5, _⟩ => ⟨S10, .f32⟩
  | .local _ .vmem, ⟨6, _⟩ => ⟨S4x3072x10x128, .fp8e4m3⟩
  | .local _ .vmem, ⟨7, _⟩ => ⟨S10, .f32⟩
  | .local _ .vmem, ⟨8, _⟩ => ⟨S4x3072x10x128, .fp8e4m3⟩
  | .local _ .vmem, ⟨9, _⟩ => ⟨S10, .f32⟩
  | .local _ .vmem, ⟨10, _⟩ => ⟨S4x3072x5120, .fp8e4m3⟩
  | .local _ .vmem, ⟨11, _⟩ => ⟨S4x3072, .f32⟩
  | _, _ => ⟨S4x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x3072x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3072x10x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3072x10x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x3072x10x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x3072x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Hand.KernelRun.lean ====
/- The run of the kernel program, read at its result arrays. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result array at the last boundary's contents, the arguments unchanged. -/
theorem run : θ_run defs (onTc (τ := τ) (main (F := F))) ⟨m, fun _ => 0, ρ⟩ (fun r => ∀ c : Dev nD,
      (r.2.mem ((c.tc : Thread nD τ).loc main_v8) = W5 m ρ c (Proc.devRef .tc main_v8)
      ∧ r.2.mem ((c.tc : Thread nD τ).loc main_v9) = W5 m ρ c (Proc.devRef .tc main_v9)
      ∧ r.2.mem ((c.tc : Thread nD τ).loc main_v10) = W5 m ρ c (Proc.devRef .tc main_v10)
      ∧ r.2.mem ((c.tc : Thread nD τ).loc main_v11) = W5 m ρ c (Proc.devRef .tc main_v11)
      ∧ r.2.mem ((c.tc : Thread nD τ).loc main_v12) = W5 m ρ c (Proc.devRef .tc main_v12)
      ∧ r.2.mem ((c.tc : Thread nD τ).loc main_v13) = W5 m ρ c (Proc.devRef .tc main_v13)
      ∧ r.2.mem ((c.tc : Thread nD τ).loc main_v14) = W5 m ρ c (Proc.devRef .tc main_v14)
      ∧ r.2.mem ((c.tc : Thread nD τ).loc main_v17) = W5 m ρ c (Proc.devRef .tc main_v17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨⟨h c _ (mem_uc main_v8 (by decide)), h c _ (mem_uc main_v9 (by decide)), h c _ (mem_uc main_v10 (by decide)), h c _ (mem_uc main_v11 (by decide)),
        h c _ (mem_uc main_v12 (by decide)), h c _ (mem_uc main_v13 (by decide)), h c _ (mem_uc main_v14 (by decide)), h c _ (mem_uc main_v17 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Hand
-- ==== Proof.Hand.Lists1.lean ====
/- The stored pieces of the requantisation kernel, one list per result window, each piece the same function of its loads. -/
module

public import proofs.«01_k».proof.Proof.Gen.KernelIdeal.Frame
public import Idealize.ShloMosaic.Lib.Pipeline.Value
public import Idealize.ShloMosaic.PureOps.Ideal

@[expose] public section

set_option maxRecDepth 4000

noncomputable section

namespace Cert.KernelIdeal.Hand

open Cert.KernelIdeal Cert.KernelIdeal.Gen Idealize.ShloMosaic Idealize.ShloMosaic.TcCoe Idealize.SL.Sem

variable {F : FTy → Type} [FloatOps F]

/-- One step of the search for the exponent field. -/
def srch {s : Shape} (k : BitVec 32) (v : FVec F s .f32) (n : IVec s 32) : IVec s 32 :=
  select (cmpf .oge v (bitcastToFloat .f32 (shli (addi n (broadcast s k)) (broadcast s 23#32)))) (addi n (broadcast s k)) n

/-- The scale exponent from the scaled maximum. -/
def expo {s : Shape} (v : FVec F s .f32) : IVec s 32 :=
  let n : IVec s 32 := minsi (srch 1#32 v (srch 2#32 v (srch 4#32 v (srch 8#32 v (srch 16#32 v (srch 32#32 v (srch 64#32 v (srch 128#32 v (broadcast s 0#32))))))))) (broadcast s 246#32)
  select (cmpi .eq n (broadcast s 0#32)) (broadcast s 0#32) (subi n (broadcast s 126#32))

/-- The power of two with a given exponent. -/
def pow2 {s : Shape} (e : IVec s 32) : FVec F s .f32 :=
  bitcastToFloat .f32 (shli (addi e (broadcast s 127#32)) (broadcast s 23#32))

/-- The scaled maximum of a head. -/
def headV (ws : Vec F S1x128 .f32) (cm : Vec F S8x128 .f32) : FVec F S1x128 .f32 := k1_pay4 ws cm

/-- A head's codes. -/
def headCode (ws : Vec F S1x128 .f32) (cm : Vec F S8x128 .f32) (y : Vec F S512x128 .f32) : FVec F S1x1x512x128 .fp8e4m3 :=
  shapeCast S1x1x512x128 (truncf .fp8e4m3 (minimumf (broadcast S512x128 (Scalar.ofBits .f32 0x43E00000#32)) (maximumf (broadcast S512x128 (Scalar.ofBits .f32 0xC3E00000#32))
    (mulf (mulf (shapeCast S512x128 y shapeCasts_S512x128_S512x128) (broadcastTo S512x128 (shapeCast S1x128 ws shapeCasts_S1x128_S1x128) broadcasts_S1x128_S512x128))
     (broadcastTo S512x128 (pow2 (subi (broadcast S1x128 0#32) (expo (headV ws cm)))) broadcasts_S1x128_S512x128)))) bitsLt_fp8e4m3_f32) shapeCasts_S512x128_S1x1x512x128

/-- A head's scale. -/
def headScale (ws : Vec F S1x128 .f32) (cm : Vec F S8x128 .f32) : FVec F S1x128 .f32 := pow2 (expo (headV ws cm))

def wsR (h : Fin 30) : Rect S1x3840 := Rect.unit ![0, 128 * h.val] ![1, 128] (by intro a; fin_cases a <;> simp <;> omega)
def cmR (h : Fin 30) : Rect S8x3840 := Rect.unit ![0, 128 * h.val] ![8, 128] (by intro a; fin_cases a <;> simp <;> omega)
def yR (h : Fin 30) : Rect S512x3840 := Rect.unit ![0, 128 * h.val] ![512, 128] (by intro a; fin_cases a <;> simp <;> omega)
def oR (h : Fin 10) : Rect S1x10x512x128 := Rect.unit ![0, h.val, 0, 0] ![1, 1, 512, 128] (by intro a; fin_cases a <;> simp <;> omega)
def sR (h : Fin 30) : Rect S30x128 := Rect.unit ![h.val, 0] ![1, 128] (by intro a; fin_cases a <;> simp <;> omega)

variable (x0 : Vec F S512x3840 .f32) (x1 : Vec F S8x3840 .f32) (x2 : Vec F S1x3840 .f32)

/-- Window 3's block: ten heads' codes, the last head first. -/
theorem out1_3_list : out1_3 x0 x1 x2 = View.canon (List.ofFn fun k : Fin 10 => (⟨oR ⟨9 - k, by omega⟩, headCode (View.ld x2 (wsR ⟨9 - k, by omega⟩)) (View.ld x1 (cmR ⟨9 - k, by omega⟩)) (View.ld x0 (yR ⟨9 - k, by omega⟩))⟩ : View.Piece (Elt F) S1x10x512x128 .fp8e4m3)) := by
  rfl

theorem out1_4_list : out1_4 x0 x1 x2 = View.canon (List.ofFn fun k : Fin 10 => (⟨oR ⟨9 - k, by omega⟩, headCode (View.ld x2 (wsR ⟨19 - k, by omega⟩)) (View.ld x1 (cmR ⟨19 - k, by omega⟩)) (View.ld x0 (yR ⟨19 - k, by omega⟩))⟩ : View.Piece (Elt F) S1x10x512x128 .fp8e4m3)) := by
  rfl

theorem out1_5_list : out1_5 x0 x1 x2 = View.canon (List.ofFn fun k : Fin 10 => (⟨oR ⟨9 - k, by omega⟩, headCode (View.ld x2 (wsR ⟨29 - k, by omega⟩)) (View.ld x1 (cmR ⟨29 - k, by omega⟩)) (View.ld x0 (yR ⟨29 - k, by omega⟩))⟩ : View.Piece (Elt F) S1x10x512x128 .fp8e4m3)) := by
  rfl

theorem out1_6_list : out1_6 x0 x1 x2 = View.canon (List.ofFn fun k : Fin 30 => (⟨sR ⟨29 - k, by omega⟩, headScale (View.ld x2 (wsR ⟨29 - k, by omega⟩)) (View.ld x1 (cmR ⟨29 - k, by omega⟩))⟩ : View.Piece (Elt F) S30x128 .f32)) := by
  rfl

end Cert.KernelIdeal.Hand
-- ==== Proof.Hand.Lists0.lean ====
/- The stored pieces of the projection kernel, one list per result window, each piece the same function of its loads. -/
module

public import proofs.«01_k».proof.Proof.Hand.Lists1

@[expose] public section

set_option maxRecDepth 8000

noncomputable section

namespace Cert.KernelIdeal.Hand

open Cert.KernelIdeal Cert.KernelIdeal.Gen Idealize.ShloMosaic Idealize.ShloMosaic.TcCoe Idealize.SL.Sem

variable {F : FTy → Type} [FloatOps F]

/-- Rows `32 r …` and lanes `256 c …` of the row block. -/
def xR (r c : ℕ) : Rect S256x5120 := Rect.unit ![32 * (r % 8), 256 * (c % 20)] ![32, 256] (by intro a; fin_cases a <;> simp <;> omega)
/-- Lanes `256 c …` of gamma. -/
def gR (c : ℕ) : Rect S1x5120 := Rect.unit ![0, 256 * (c % 20)] ![1, 256] (by intro a; fin_cases a <;> simp <;> omega)
/-- Rows `32 r …` of the scale block. -/
def eR (r : ℕ) : Rect S256x128 := Rect.unit ![32 * (r % 8), 0] ![32, 128] (by intro a; fin_cases a <;> simp <;> omega)
/-- Columns `768 j …` of the weights, of the product block and of the column maxima. -/
def wR (j : ℕ) : Rect S5120x3840 := Rect.unit ![0, 768 * (j % 5)] ![5120, 768] (by intro a; fin_cases a <;> simp <;> omega)
def pR (j : ℕ) : Rect S256x3840 := Rect.unit ![0, 768 * (j % 5)] ![256, 768] (by intro a; fin_cases a <;> simp <;> omega)
def mR (j : ℕ) : Rect S8x3840 := Rect.unit ![0, 768 * (j % 5)] ![8, 768] (by intro a; fin_cases a <;> simp <;> omega)

section Group
variable (LX : ℕ → ℕ → Vec F S32x256 .bf16) (LG : ℕ → Vec F S1x256 .f32) (r : ℕ)

/-- The row chunk in f32, and gamma's chunk on its rows. -/
def xf (c : ℕ) : FVec F S32x256 .f32 := extf .f32 (shapeCast S32x256 (LX r c) shapeCasts_S32x256_S32x256 : FVec F S32x256 .bf16) bitsLt_bf16_f32
def gB (c : ℕ) : FVec F S32x256 .f32 := broadcastTo S32x256 (shapeCast S1x256 (LG c) shapeCasts_S1x256_S1x256) broadcasts_S1x256_S32x256

/-- The lane sums of squares over the first `n` chunks. -/
def ssqN : ℕ → FVec F S32x256 .f32
  | 0 => broadcast S32x256 (Scalar.ofBits .f32 0x00000000#32)
  | n + 1 => addf (ssqN n) (mulf (xf LX r n) (xf LX r n))

/-- The lane maxima of `|x gamma|` over the first `n` chunks. -/
def amaxN : ℕ → FVec F S32x256 .f32
  | 0 => broadcast S32x256 (Scalar.ofBits .f32 0x00000000#32)
  | n + 1 => maximumf (amaxN n) (absf (mulf (xf LX r n) (gB LG n)))

/-- One over the root mean square. -/
def rms : FVec F S32x1 .f32 :=
  rsqrt (addf (mulf (shapeCast S32x1 (multiReduction .add [1] S32 (ssqN LX r 20) 0x00000000#32 reduces_S32x256_S32 (.inl rfl) rfl) shapeCasts_S32_S32x1)
    (broadcast S32x1 (Scalar.ofBits .f32 0x394CCCCD#32))) (broadcast S32x1 (Scalar.ofBits .f32 0x358637BD#32)))

/-- The scaled maximum of the rows. -/
def rowV : FVec F S32x1 .f32 :=
  mulf (mulf (shapeCast S32x1 (multiReduction .maximumf [1] S32 (amaxN LX LG r 20) 0xFF800000#32 reduces_S32x256_S32 (.inl rfl) rfl) shapeCasts_S32_S32x1)
    (rms LX r)) (broadcast S32x1 (Scalar.ofBits .f32 0x3B124925#32))

/-- A chunk's codes. -/
def rowCode (c : ℕ) : FVec F S32x256 .fp8e4m3 :=
  truncf .fp8e4m3 (minimumf (broadcast S32x256 (Scalar.ofBits .f32 0x43E00000#32)) (maximumf (broadcast S32x256 (Scalar.ofBits .f32 0xC3E00000#32))
    (mulf (mulf (mulf (xf LX r c) (broadcastTo S32x256 (rms LX r) broadcasts_S32x1_S32x256)) (gB LG c))
      (broadcastTo S32x256 (pow2 (subi (broadcast S32x1 0#32) (expo (rowV LX LG r)))) broadcasts_S32x1_S32x256)))) bitsLt_fp8e4m3_f32

/-- The rows' scales. -/
def rowScale : FVec F S32x128 .f32 :=
  broadcastTo S32x128 (shapeCast S32x1 (pow2 (expo (rowV LX LG r))) shapeCasts_S32x1_S32x1) broadcasts_S32x1_S32x128
end Group

/-- The codes' pieces, last first. -/
def codeList (LX : ℕ → ℕ → Vec F S32x256 .bf16) (LG : ℕ → Vec F S1x256 .f32) : List (View.Piece (Elt F) S256x5120 .fp8e4m3) :=
  List.ofFn fun k : Fin 160 => ⟨xR (7 - k / 20) (19 - k % 20), rowCode LX LG (7 - k / 20) (19 - k % 20)⟩

/-- The scales' pieces, last first. -/
def scaleList (LX : ℕ → ℕ → Vec F S32x256 .bf16) (LG : ℕ → Vec F S1x256 .f32) : List (View.Piece (Elt F) S256x128 .f32) :=
  List.ofFn fun k : Fin 8 => ⟨eR (7 - k), rowScale LX LG (7 - k)⟩

/-- A column tile of the product. -/
def tile (C : Vec F S256x5120 .fp8e4m3) (E : Vec F S256x1 .f32) (w : Vec F S5120x768 .fp8e4m3) : FVec F S256x768 .f32 :=
  mulf (matmul dot_S256x5120_S5120x768_S256x768_1_0_0_1_n_n none (shapeCast S256x5120 C shapeCasts_S256x5120_S256x5120 : FVec F S256x5120 .fp8e4m3) (w : FVec F S5120x768 .fp8e4m3) (constant S256x768 .f32 0x00000000#32))
    (broadcastTo S256x768 (shapeCast S256x1 E shapeCasts_S256x1_S256x1) broadcasts_S256x1_S256x768)

/-- The product's pieces, last first. -/
def tileList (C : Vec F S256x5120 .fp8e4m3) (E : Vec F S256x1 .f32) (LW : ℕ → Vec F S5120x768 .fp8e4m3) : List (View.Piece (Elt F) S256x3840 .f32) :=
  List.ofFn fun k : Fin 5 => ⟨pR (4 - k), tile C E (LW (4 - k))⟩

/-- The column maxima of a tile, eight rows apart, joined to earlier ones. -/
def colMax (p : Vec F S8x768 .f32) (t : FVec F S256x768 .f32) : FVec F S8x768 .f32 :=
  maximumf (shapeCast S8x768 p shapeCasts_S8x768_S8x768)
    (multiReduction .maximumf [0] S8x768 (shapeCast S32x8x768 (absf t) shapeCasts_S256x768_S32x8x768) 0xFF800000#32 reduces_S32x8x768_S8x768 (.inl rfl) rfl)

/-- The rectangle of the whole code block, and the scale block's first column. -/
def allR : Rect S256x5120 := Rect.unit ![0, 0] S256x5120.size inb_S256x5120_S256x5120_0_0
def oneR : Rect S256x128 := Rect.unit ![0, 0] ![256, 1] (by intro a; fin_cases a <;> simp)

/-- The column maxima's stores at the first step, last first: zeros, then one store per tile that reads its own columns back. -/
def maxList (M : Memref sig .tc .vmem S8x3840 .f32) (T : ℕ → FVec F S256x768 .f32) : ℕ → List (View.Piece (Elt F) S8x3840 .f32)
  | 0 => [⟨Rect.unit ![0, 0] S8x3840.size inb_S8x3840_S8x3840_0_0, k0_pay2⟩]
  | n + 1 => ⟨mR n, colMax (M.view.readCov (maxList M T n) (mR n).toLoadRect) (T n)⟩ :: maxList M T n

/-- The column maxima's stores at a later step, last first. -/
def maxListB (P : ℕ → Vec F S8x768 .f32) (T : ℕ → FVec F S256x768 .f32) : List (View.Piece (Elt F) S8x3840 .f32) :=
  List.ofFn fun k : Fin 5 => ⟨mR (4 - k), colMax (P (4 - k)) (T (4 - k))⟩

section Run
variable (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S256x5120 .fp8e4m3) (harg4 : arg4.IsWhole) (arg5 : Memref sig .tc .vmem S256x128 .f32) (harg5 : arg5.IsWhole) (arg6 : Memref sig .tc .vmem S256x3840 .f32) (harg6 : arg6.IsWhole) (arg7 : Memref sig .tc .vmem S8x3840 .f32) (harg7 : arg7.IsWhole)
variable (x0 : Vec F S256x5120 .bf16) (x1 : Vec F S1x5120 .f32) (x2 : Vec F S5120x3840 .fp8e4m3) (xo : Vec F S8x3840 .f32)

/-- The kernel's loads of the row block, of gamma and of the weights. -/
def ldX (r c : ℕ) : Vec F S32x256 .bf16 := View.readAt (Elt F) arg1.view (xR r c).toLoadRect (harg1.unread x0)
def ldG (c : ℕ) : Vec F S1x256 .f32 := View.readAt (Elt F) arg2.view (gR c).toLoadRect (harg2.unread x1)
def ldW (j : ℕ) : Vec F S5120x768 .fp8e4m3 := View.readAt (Elt F) arg3.view (wR j).toLoadRect (harg3.unread x2)

set_option maxHeartbeats 4000000 in
theorem runA_3 (hc0) : (kernelRun0_A c i arg1 harg1 arg2 harg2 arg3 harg3 arg4 harg4 arg5 harg5 arg6 harg6 arg7 harg7 hc0 x0 x1 x2).1
    = codeList (ldX arg1 harg1 x0) (ldG arg2 harg2 x1) := by rfl

theorem runA_4 (hc0) : (kernelRun0_A c i arg1 harg1 arg2 harg2 arg3 harg3 arg4 harg4 arg5 harg5 arg6 harg6 arg7 harg7 hc0 x0 x1 x2).2.1
    = scaleList (ldX arg1 harg1 x0) (ldG arg2 harg2 x1) := by rfl

theorem runA_5 (hc0) : (kernelRun0_A c i arg1 harg1 arg2 harg2 arg3 harg3 arg4 harg4 arg5 harg5 arg6 harg6 arg7 harg7 hc0 x0 x1 x2).2.2.1
    = tileList (arg4.view.readCov (kernelRun0_A c i arg1 harg1 arg2 harg2 arg3 harg3 arg4 harg4 arg5 harg5 arg6 harg6 arg7 harg7 hc0 x0 x1 x2).1 allR.toLoadRect) (arg5.view.readCov (kernelRun0_A c i arg1 harg1 arg2 harg2 arg3 harg3 arg4 harg4 arg5 harg5 arg6 harg6 arg7 harg7 hc0 x0 x1 x2).2.1 oneR.toLoadRect) (ldW arg3 harg3 x2) := by rfl

theorem runA_6 (hc0) : (kernelRun0_A c i arg1 harg1 arg2 harg2 arg3 harg3 arg4 harg4 arg5 harg5 arg6 harg6 arg7 harg7 hc0 x0 x1 x2).2.2.2.1
    = maxList arg7 (fun j => tile (arg4.view.readCov (kernelRun0_A c i arg1 harg1 arg2 harg2 arg3 harg3 arg4 harg4 arg5 harg5 arg6 harg6 arg7 harg7 hc0 x0 x1 x2).1 allR.toLoadRect) (arg5.view.readCov (kernelRun0_A c i arg1 harg1 arg2 harg2 arg3 harg3 arg4 harg4 arg5 harg5 arg6 harg6 arg7 harg7 hc0 x0 x1 x2).2.1 oneR.toLoadRect) (ldW arg3 harg3 x2 j)) 5 := by rfl

set_option maxHeartbeats 4000000 in
theorem runB_3 (hc0) : (kernelRun0_B c i arg1 harg1 arg2 harg2 arg3 harg3 arg4 harg4 arg5 harg5 arg6 harg6 arg7 harg7 hc0 x0 x1 x2 xo).1 = codeList (ldX arg1 harg1 x0) (ldG arg2 harg2 x1) := by rfl

theorem runB_4 (hc0) : (kernelRun0_B c i arg1 harg1 arg2 harg2 arg3 harg3 arg4 harg4 arg5 harg5 arg6 harg6 arg7 harg7 hc0 x0 x1 x2 xo).2.1 = scaleList (ldX arg1 harg1 x0) (ldG arg2 harg2 x1) := by rfl

theorem runB_5 (hc0) : (kernelRun0_B c i arg1 harg1 arg2 harg2 arg3 harg3 arg4 harg4 arg5 harg5 arg6 harg6 arg7 harg7 hc0 x0 x1 x2 xo).2.2.1
    = tileList (arg4.view.readCov (kernelRun0_B c i arg1 harg1 arg2 harg2 arg3 harg3 arg4 harg4 arg5 harg5 arg6 harg6 arg7 harg7 hc0 x0 x1 x2 xo).1 allR.toLoadRect) (arg5.view.readCov (kernelRun0_B c i arg1 harg1 arg2 harg2 arg3 harg3 arg4 harg4 arg5 harg5 arg6 harg6 arg7 harg7 hc0 x0 x1 x2 xo).2.1 oneR.toLoadRect) (ldW arg3 harg3 x2) := by rfl

theorem runB_6 (hc0) : (kernelRun0_B c i arg1 harg1 arg2 harg2 arg3 harg3 arg4 harg4 arg5 harg5 arg6 harg6 arg7 harg7 hc0 x0 x1 x2 xo).2.2.2.1
    = maxListB (fun j => View.readAt (Elt F) arg7.view (mR j).toLoadRect (harg7.unread xo)) (fun j => tile (arg4.view.readCov (kernelRun0_B c i arg1 harg1 arg2 harg2 arg3 harg3 arg4 harg4 arg5 harg5 arg6 harg6 arg7 harg7 hc0 x0 x1 x2 xo).1 allR.toLoadRect) (arg5.view.readCov (kernelRun0_B c i arg1 harg1 arg2 harg2 arg3 harg3 arg4 harg4 arg5 harg5 arg6 harg6 arg7 harg7 hc0 x0 x1 x2 xo).2.1 oneR.toLoadRect) (ldW arg3 harg3 x2 j)) := by rfl

end Run

end Cert.KernelIdeal.Hand
-- ==== Proof.Hand.Exponent.lean ====
/- The power-of-two scale: the kernel finds the exponent by a binary search over the exponent field, the reference from a
   logarithm; both give the same power of two at every extended real. -/
module

public import proofs.«01_k».proof.Proof.Hand.Lists1

@[expose] public section

noncomputable section

namespace Cert.Val

open Idealize.ShloMosaic

/-- The value whose exponent field is `n` and whose fraction is 0. -/
def thr (n : ℕ) : EReal := Ideal.ofBits .f32 (BitVec.ofNat 32 n <<< (23#32).toNat)

theorem thr_bits : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  decide +kernel

theorem thr_eq (n : ℕ) (h0 : 0 < n) (h : n < 255) : thr n = (((2 : ℝ) ^ ((n : ℤ) - 127) : ℝ) : EReal) := by
  obtain ⟨h1, h2, h3⟩ := thr_bits ⟨n, by omega⟩
  simp only [] at h1 h2 h3
  have e : thr n = Ideal.ieee 8 23 (BitVec.ofNat 32 n <<< 23) := rfl
  rw [e, Ideal.ieee]
  simp only [Nat.reduceAdd, h1, h2, h3]
  rw [if_neg (by norm_num; omega), if_neg (by omega)]
  simp only [Bool.false_eq_true, if_false, one_mul, Nat.add_zero]
  refine congrArg (fun q : ℝ => (q : EReal)) ?_
  push_cast
  norm_num
  have h23 : (2 : ℝ) ^ (23 : ℤ) = 8388608 := by norm_num
  rw [zpow_sub₀ (by norm_num : (2 : ℝ) ≠ 0) _ 23, h23]
  ring

theorem thr_zero : thr 0 = 0 := by
  obtain ⟨h1, h2, h3⟩ := thr_bits ⟨0, by omega⟩
  simp only [] at h1 h2 h3
  have e : thr 0 = Ideal.ieee 8 23 (BitVec.ofNat 32 0 <<< 23) := rfl
  rw [e, Ideal.ieee]
  simp only [Nat.reduceAdd, h1, h2, h3]
  norm_num

theorem thr_top : thr 255 = ⊤ := by
  obtain ⟨h1, h2, h3⟩ := thr_bits ⟨255, by omega⟩
  simp only [] at h1 h2 h3
  have e : thr 255 = Ideal.ieee 8 23 (BitVec.ofNat 32 255 <<< 23) := rfl
  rw [e, Ideal.ieee]
  simp only [Nat.reduceAdd, h1, h2, h3]
  norm_num

/-- One step of the search, on naturals. -/
def stepN (v : EReal) (k n : ℕ) : ℕ := if thr (n + k) ≤ v then n + k else n

/-- What the search knows with `K` fields left to tell apart. -/
def Inv (v : EReal) (K n : ℕ) : Prop := n + K ≤ 256 ∧ (n = 0 ∨ thr n ≤ v) ∧ (n + K = 256 ∨ v < thr (n + K))

theorem Inv.step {v : EReal} {k n : ℕ} (h : Inv v (k + k) n) : Inv v k (stepN v k n) := by
  obtain ⟨h1, h2, h3⟩ := h
  unfold stepN
  split
  · next hc => exact ⟨by omega, .inr hc, by rw [Nat.add_assoc]; exact h3⟩
  · next hc => exact ⟨by omega, h2, .inr (not_le.mp hc)⟩

/-- The exponent field the search finds. -/
def fieldN (v : EReal) : ℕ :=
  stepN v 1 (stepN v 2 (stepN v 4 (stepN v 8 (stepN v 16 (stepN v 32 (stepN v 64 (stepN v 128 0)))))))

theorem fieldN_inv (v : EReal) : Inv v 1 (fieldN v) := by
  have h : Inv v (128 + 128) 0 := ⟨by omega, .inl rfl, .inl rfl⟩
  exact (Inv.step (k := 1) (Inv.step (k := 2) (Inv.step (k := 4) (Inv.step (k := 8) (Inv.step (k := 16)
    (Inv.step (k := 32) (Inv.step (k := 64) (Inv.step (k := 128) h))))))))

/-- The reference's exponent of a scaled maximum. -/
def expR (v : EReal) : EReal :=
  Scalar.select (Ideal.cmp .olt v (Ideal.ofBits .f32 0x00800000#32)) (Ideal.ofBits .f32 0x00000000#32)
    (min (Ideal.liftRound Int.floor (Ideal.div (Ideal.log v) (Ideal.log (Ideal.ofBits .f32 0x40000000#32))) + Ideal.ofBits .f32 0x3F800000#32)
      (Ideal.ofBits .f32 0x42F00000#32))

theorem c_zero : Ideal.ofBits .f32 0x00000000#32 = 0 := by simp [Ideal.ofBits, Ideal.ieee]
theorem c_one : Ideal.ofBits .f32 0x3F800000#32 = ((1 : ℝ) : EReal) := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_120 : Ideal.ofBits .f32 0x42F00000#32 = ((120 : ℝ) : EReal) := by simp [Ideal.ofBits, Ideal.ieee, -EReal.coe_mul]; norm_num

/-- The exponent, as an integer. -/
def expZ (v : EReal) : ℤ := if min (fieldN v) 246 = 0 then 0 else (min (fieldN v) 246 : ℕ) - 126

theorem expR_eq (v : EReal) : expR v = ((expZ v : ℝ) : EReal) := by
  obtain ⟨h1, h2, h3⟩ := fieldN_inv v
  generalize hN : fieldN v = N at h1 h2 h3
  have ht1 : Ideal.ofBits .f32 0x00800000#32 = thr 1 := rfl
  unfold expR expZ
  rw [hN, ht1, c_zero, c_one, c_two, c_120]
  by_cases hv : v < thr 1
  · have hN0 : N = 0 := by
      by_contra hne
      rcases h2 with h2 | h2
      · exact hne h2
      · have hlt := lt_of_le_of_lt h2 hv
        rcases Nat.lt_or_ge N 255 with h | h
        · rw [thr_eq N (by omega) h, thr_eq 1 (by omega) (by omega), EReal.coe_lt_coe_iff] at hlt
          have := (zpow_lt_zpow_iff_right₀ (by norm_num : (1 : ℝ) < 2)).mp hlt
          omega
        · rw [show N = 255 by omega, thr_top] at hlt; exact absurd hlt not_top_lt
    subst hN0
    simp [Scalar.select, Ideal.cmp, hv]
  · have hle : thr 1 ≤ v := not_lt.mp hv
    have hN1 : 1 ≤ N := by
      by_contra hne
      have : N = 0 := by omega
      subst this
      rcases h3 with h3 | h3
      · omega
      · exact hv h3
    have hsel : ∀ a b : EReal, Scalar.select (Ideal.cmp .olt v (thr 1)) a b = b := fun a b => by simp [Scalar.select, Ideal.cmp, hv]
    rw [hsel, if_neg (by omega)]
    have hl2 : (0 : ℝ) < Real.log 2 := Real.log_pos (by norm_num)
    have hlog2 : Ideal.log ((2 : ℝ) : EReal) = ((Real.log 2 : ℝ) : EReal) := by
      show (if (2 : ℝ) ≤ 0 then (⊥ : EReal) else _) = _
      rw [if_neg (by norm_num)]
    have hne0 : ((Real.log 2 : ℝ) : EReal) ≠ 0 := by
      intro h; exact hl2.ne' (by exact_mod_cast h)
    rw [hlog2]
    rw [thr_eq 1 (by omega) (by omega)] at hle
    induction v with
    | bot => exact absurd hle (by simp)
    | top =>
      have hNtop : 246 ≤ N := by
        rcases h3 with h3 | h3
        · omega
        · exact absurd h3 (by simp)
      have e1 : Ideal.log (⊤ : EReal) = ⊤ := rfl
      have e2 : Ideal.div ⊤ ((Real.log 2 : ℝ) : EReal) = ⊤ := by
        rw [Ideal.div, if_neg hne0, ← EReal.coe_inv]
        exact EReal.top_mul_coe_of_pos (inv_pos.mpr hl2)
      have e3 : Ideal.liftRound Int.floor (⊤ : EReal) = ⊤ := rfl
      rw [e1, e2, e3, EReal.top_add_coe, min_eq_right le_top, Nat.min_eq_right hNtop]
      norm_num
    | coe a =>
      have hle' : (2 : ℝ) ^ ((1 : ℕ) - 127 : ℤ) ≤ a := by exact_mod_cast hle
      have ha : 0 < a := lt_of_lt_of_le (by positivity) hle'
      have e1 : Ideal.log (a : EReal) = ((Real.log a : ℝ) : EReal) := by
        show (if a ≤ 0 then (⊥ : EReal) else _) = _
        rw [if_neg (not_le.mpr ha)]
      have e2 : Ideal.div ((Real.log a : ℝ) : EReal) ((Real.log 2 : ℝ) : EReal) = ((Real.log a / Real.log 2 : ℝ) : EReal) := by
        rw [Ideal.div, if_neg hne0, ← EReal.coe_inv, ← EReal.coe_mul, div_eq_mul_inv]
      have e3 : ∀ q : ℝ, Ideal.liftRound Int.floor (q : EReal) = ((⌊q⌋ : ℝ) : EReal) := fun q => rfl
      rw [e1, e2, e3, ← EReal.coe_add, ← (EReal.coe_strictMono.monotone).map_min]
      refine congrArg (fun q : ℝ => (q : EReal)) ?_
      have hfl : ∀ z : ℤ, z ≤ ⌊Real.log a / Real.log 2⌋ ↔ (2 : ℝ) ^ z ≤ a := fun z => by
        rw [Int.le_floor, le_div_iff₀ hl2, ← Real.log_zpow, Real.log_le_log_iff (by positivity) ha]
      have hmain : min (⌊Real.log a / Real.log 2⌋ + 1) 120 = ((min N 246 : ℕ) : ℤ) - 126 := by
        have hlow : N < 255 → (N : ℤ) - 127 ≤ ⌊Real.log a / Real.log 2⌋ := fun h => by
          rcases h2 with h2 | h2
          · omega
          · rw [thr_eq N (by omega) h] at h2
            exact (hfl _).mpr (by exact_mod_cast h2)
        have hhigh : N < 254 → ⌊Real.log a / Real.log 2⌋ < (N : ℤ) - 126 := fun h => by
          rcases h3 with h3 | h3
          · omega
          · rw [thr_eq (N + 1) (by omega) (by omega), EReal.coe_lt_coe_iff] at h3
            by_contra hc
            have h5 := (hfl _).mp (not_lt.mp hc)
            have h6 : ((N + 1 : ℕ) : ℤ) - 127 = (N : ℤ) - 126 := by push_cast; ring
            rw [h6] at h3
            exact absurd h5 (not_le.mpr h3)
        have hN255 : N < 255 := by
          by_contra hc
          rcases h2 with h2 | h2
          · omega
          · rw [show N = 255 by omega, thr_top] at h2
            exact absurd h2 (by simp)
        have hl := hlow hN255
        by_cases hN246 : N < 246
        · have hh := hhigh (by omega)
          omega
        · omega
      have := congrArg (Int.cast : ℤ → ℝ) hmain
      push_cast at this ⊢
      exact this

/-- The scale of a scaled maximum, and its inverse. -/
def scaleR (v : EReal) : EReal := Ideal.exp2 (expR v)
def invR (v : EReal) : EReal := Ideal.exp2 (0 - expR v)

/-! The kernel's words. -/

def stepW (v : EReal) (k n : BitVec 32) : BitVec 32 :=
  Scalar.select (Ideal.cmp .oge v (Ideal.ofBits .f32 (IntOp.shli .vector (n + k) 23#32))) (n + k) n

theorem shl23 (n : BitVec 32) : IntOp.shli .vector n 23#32 = n <<< (23#32).toNat := rfl

theorem stepW_eq (v : EReal) (k n : ℕ) : stepW v (BitVec.ofNat 32 k) (BitVec.ofNat 32 n) = BitVec.ofNat 32 (stepN v k n) := by
  unfold stepW stepN
  rw [← BitVec.ofNat_add, shl23]
  show Scalar.select (BitVec.ofBool (decide (thr (n + k) ≤ v))) _ _ = _
  by_cases h : thr (n + k) ≤ v <;> simp [Scalar.select, h]

/-- The word of the exponent. -/
def expW (v : EReal) : BitVec 32 :=
  let n := IntOp.minsi (stepW v 1#32 (stepW v 2#32 (stepW v 4#32 (stepW v 8#32 (stepW v 16#32 (stepW v 32#32 (stepW v 64#32 (stepW v 128#32 0#32)))))))) 246#32
  Scalar.select (IntOp.cmpi .eq n 0#32) 0#32 (n - 126#32)

theorem minsi_small : ∀ n : Fin 256, IntOp.minsi (BitVec.ofNat 32 n.val) 246#32 = BitVec.ofNat 32 (min n.val 246) := by decide +kernel

theorem expW_words : ∀ n : Fin 247, Scalar.select (IntOp.cmpi .eq (BitVec.ofNat 32 n.val) 0#32) 0#32 (BitVec.ofNat 32 n.val - 126#32) + 127#32
      = BitVec.ofNat 32 (if n.val = 0 then 127 else n.val + 1)
    ∧ 0#32 - Scalar.select (IntOp.cmpi .eq (BitVec.ofNat 32 n.val) 0#32) 0#32 (BitVec.ofNat 32 n.val - 126#32) + 127#32
      = BitVec.ofNat 32 (if n.val = 0 then 127 else 253 - n.val) := by decide +kernel

theorem expW_eq (v : EReal) : expW v = Scalar.select (IntOp.cmpi .eq (BitVec.ofNat 32 (min (fieldN v) 246)) 0#32) 0#32 (BitVec.ofNat 32 (min (fieldN v) 246) - 126#32) := by
  unfold expW
  have h := minsi_small ⟨fieldN v, by have := (fieldN_inv v).1; omega⟩
  simp only [] at h
  rw [← h, fieldN]
  simp only [← stepW_eq]

theorem pow2_scale (v : EReal) : Ideal.ofBits .f32 (IntOp.shli .vector (expW v + 127#32) 23#32) = scaleR v := by
  have hm : min (fieldN v) 246 < 247 := by omega
  have hw := (expW_words ⟨_, hm⟩).1
  simp only [] at hw
  rw [expW_eq, hw, shl23]
  show thr _ = _
  unfold scaleR
  rw [expR_eq, expZ]
  show _ = ((Real.rpow 2 _ : ℝ) : EReal)
  split
  · next h => rw [thr_eq _ (by omega) (by omega)]; norm_num
  · next h =>
    rw [thr_eq _ (by omega) (by omega)]
    congr 1
    rw [← Real.rpow_intCast]
    show _ = (2 : ℝ) ^ (_ : ℝ)
    congr 2
    push_cast; ring

theorem pow2_inv (v : EReal) : Ideal.ofBits .f32 (IntOp.shli .vector (0#32 - expW v + 127#32) 23#32) = invR v := by
  have hm : min (fieldN v) 246 < 247 := by omega
  have hw := (expW_words ⟨_, hm⟩).2
  simp only [] at hw
  rw [expW_eq, hw, shl23]
  show thr _ = _
  unfold invR
  rw [expR_eq, expZ, ← EReal.coe_zero, ← EReal.coe_sub]
  show _ = ((Real.rpow 2 _ : ℝ) : EReal)
  split
  · next h => rw [thr_eq _ (by omega) (by omega)]; norm_num
  · next h =>
    rw [thr_eq _ (by omega) (by omega)]
    congr 1
    rw [← Real.rpow_intCast]
    show _ = (2 : ℝ) ^ (_ : ℝ)
    congr 2
    rw [Nat.cast_sub (by omega)]
    push_cast; ring

open Cert.KernelIdeal.Hand in
theorem srch_apply {s : Shape} (k : BitVec 32) (v : FVec Ideal s .f32) (n : IVec s 32) (i : s.Idx) : srch k v n i = stepW (v i) k (n i) := rfl

open Cert.KernelIdeal.Hand in
theorem expo_apply {s : Shape} (v : FVec Ideal s .f32) (i : s.Idx) : expo v i = expW (v i) := by
  unfold expo
  show (let n := IntOp.minsi (srch 1#32 v _ i) 246#32; Scalar.select (IntOp.cmpi .eq n 0#32) 0#32 (n - 126#32)) = _
  simp only [srch_apply]
  rfl

open Cert.KernelIdeal.Hand in
theorem pow2_expo {s : Shape} (v : FVec Ideal s .f32) (i : s.Idx) : pow2 (F := Ideal) (expo v) i = scaleR (v i) := by
  rw [← pow2_scale, ← expo_apply]; rfl

open Cert.KernelIdeal.Hand in
theorem pow2_neg_expo {s : Shape} (v : FVec Ideal s .f32) (i : s.Idx) :
    pow2 (F := Ideal) (subi (broadcast s 0#32) (expo v)) i = invR (v i) := by
  rw [← pow2_inv, ← expo_apply]; rfl

end Cert.Val
-- ==== Proof.Hand.Spec.lean ====
/- The values of the results, in plain arithmetic on the extended reals, and the two laws of maxima that join the kernel's
   order of work to the reference's. -/
module

public import proofs.«01_k».proof.Proof.Hand.Exponent

@[expose] public section

noncomputable section

namespace Cert.Val

open Idealize.ShloMosaic

/-- The absolute value. -/
def av (x : EReal) : EReal := max x (-x)

theorem av_of_nonneg {x : EReal} (h : 0 ≤ x) : av x = x := max_eq_left ((EReal.neg_le_zero.mpr h).trans h)
theorem av_of_nonpos {x : EReal} (h : x ≤ 0) : av x = -x := max_eq_right (h.trans (EReal.neg_nonneg.mpr h))
theorem av_nonneg (x : EReal) : 0 ≤ av x := by
  rcases le_total 0 x with h | h
  · rw [av_of_nonneg h]; exact h
  · rw [av_of_nonpos h]; exact EReal.neg_nonneg.mpr h
theorem av_neg (x : EReal) : av (-x) = av x := by rw [av, av, neg_neg, max_comm]
theorem av_mul (x y : EReal) : av (x * y) = av x * av y := by
  have key : ∀ x y : EReal, 0 ≤ x → 0 ≤ y → av (x * y) = av x * av y := fun x y hx hy => by
    rw [av_of_nonneg hx, av_of_nonneg hy, av_of_nonneg (EReal.mul_nonneg hx hy)]
  rcases le_total 0 x with hx | hx <;> rcases le_total 0 y with hy | hy
  · exact key x y hx hy
  · rw [← av_neg y, ← key x (-y) hx (EReal.neg_nonneg.mpr hy), mul_neg, av_neg]
  · rw [← av_neg x, ← key (-x) y (EReal.neg_nonneg.mpr hx) hy, neg_mul, av_neg]
  · rw [← av_neg x, ← av_neg y, ← key (-x) (-y) (EReal.neg_nonneg.mpr hx) (EReal.neg_nonneg.mpr hy), neg_mul, mul_neg, neg_neg]

/-- The constants: one over the row length, the small addend, one over the largest code, and the largest code with both signs. -/
def cD : EReal := Ideal.ofBits .f32 0x394CCCCD#32
def cE : EReal := Ideal.ofBits .f32 0x358637BD#32
def c448 : EReal := Ideal.ofBits .f32 0x3B124925#32
def pos448 : EReal := Ideal.ofBits .f32 0x43E00000#32
def neg448 : EReal := Ideal.ofBits .f32 0xC3E00000#32

/-- One over a row's root mean square. -/
def rmsS (u : Fin 5120 → EReal) : EReal := Ideal.rsqrt ((∑ d, u d * u d) * cD + cE)
/-- The normalised row. -/
def hS (u g : Fin 5120 → EReal) (d : Fin 5120) : EReal := u d * rmsS u * g d
/-- Its largest absolute value, over 448. -/
def rowVS (u g : Fin 5120 → EReal) : EReal := (⨆ d, av (hS u g d)) * c448
/-- Clip to the codes' range. -/
def codeS (z t : EReal) : EReal := min pos448 (max neg448 (z * t))
/-- A row's codes, scale, and product with a column of weights. -/
def xcode (u g : Fin 5120 → EReal) (d : Fin 5120) : EReal := codeS (hS u g d) (invR (rowVS u g))
def xscale (u g : Fin 5120 → EReal) : EReal := scaleR (rowVS u g)
def projS (u g w : Fin 5120 → EReal) : EReal := (∑ k, xcode u g k * w k) * xscale u g

theorem rsqrt_nonneg (x : EReal) (h : 0 ≤ x) : 0 ≤ Ideal.rsqrt x := by
  induction x with
  | bot => exact absurd h (by simp)
  | top => exact le_refl _
  | coe r =>
    have hr : 0 ≤ r := by exact_mod_cast h
    show 0 ≤ (if r < 0 then (⊥ : EReal) else if r = 0 then ⊤ else (((Real.sqrt r)⁻¹ : ℝ) : EReal))
    rw [if_neg (not_lt.mpr hr)]
    split
    · exact le_top
    · exact_mod_cast inv_nonneg.mpr (Real.sqrt_nonneg r)

theorem cD_nonneg : 0 ≤ cD := by unfold cD; simp [Ideal.ofBits, Ideal.ieee, -EReal.coe_mul]
theorem cE_nonneg : 0 ≤ cE := by unfold cE; simp [Ideal.ofBits, Ideal.ieee, -EReal.coe_mul]
theorem mul_self_nonneg' (x : EReal) : 0 ≤ x * x := by
  have h := av_nonneg (x * x)
  rcases le_total 0 x with hx | hx
  · exact EReal.mul_nonneg hx hx
  · rw [← neg_neg x, neg_mul, mul_neg, neg_neg]; exact EReal.mul_nonneg (EReal.neg_nonneg.mpr hx) (EReal.neg_nonneg.mpr hx)

theorem rmsS_nonneg (u : Fin 5120 → EReal) : 0 ≤ rmsS u :=
  rsqrt_nonneg _ (add_nonneg (EReal.mul_nonneg (Finset.sum_nonneg fun d _ => mul_self_nonneg' (u d)) cD_nonneg) cE_nonneg)

/-- A nondecreasing function of the largest of finitely many values is the largest of its values. -/
theorem mono_iSup {ι : Type*} [Finite ι] [Nonempty ι] (φ : EReal → EReal) (hφ : Monotone φ) (f : ι → EReal) : φ (⨆ i, f i) = ⨆ i, φ (f i) := by
  obtain ⟨i0, h0⟩ := Finite.exists_max f
  have h1 : (⨆ i, f i) = f i0 := le_antisymm (iSup_le h0) (le_iSup f i0)
  rw [h1]
  exact le_antisymm (le_iSup (fun i => φ (f i)) i0) (iSup_le fun i => hφ (h0 i))

theorem mul_mono {r : EReal} (h : 0 ≤ r) : Monotone fun x : EReal => x * r := fun _ _ hab => mul_le_mul_of_nonneg_right hab h

theorem iSup_mul {ι : Type*} [Finite ι] [Nonempty ι] (f : ι → EReal) {r : EReal} (h : 0 ≤ r) : (⨆ i, f i) * r = ⨆ i, f i * r :=
  mono_iSup (fun x => x * r) (mul_mono h) f

/-- The kernel's row maximum: of `|x gamma|`, times one over the root mean square. -/
theorem rowVS_eq (u g : Fin 5120 → EReal) : (⨆ d, av (u d * g d)) * rmsS u * c448 = rowVS u g := by
  unfold rowVS
  rw [iSup_mul _ (rmsS_nonneg u)]
  congr 1
  refine iSup_congr fun d => ?_
  rw [hS, mul_right_comm, av_mul (u d * g d), av_of_nonneg (rmsS_nonneg u)]

/-- A maximum read by its upper bounds. -/
theorem fold_max_le_iff {ι : Type*} (s : Finset ι) (f : ι → EReal) (b : EReal) :
    s.fold max (Ideal.ofBits .f32 0xFF800000#32) f ≤ b ↔ ∀ i ∈ s, f i ≤ b := by
  have hb : Ideal.ofBits .f32 0xFF800000#32 = ⊥ := by simp [Ideal.ofBits, Ideal.ieee]
  rw [Finset.fold_max_le, hb]
  simp

end Cert.Val
-- ==== Proof.Hand.Rows.lean ====
/- The values of one row group and of one column tile of the projection kernel, and of one head of the requantisation. -/
module

public import proofs.«01_k».proof.Proof.Hand.Lists0
public import proofs.«01_k».proof.Proof.Hand.Spec
public import Idealize.ShloMosaic.Lib.Pointwise
public import Idealize.ShloMosaic.Lib.Pipeline.ValueKit.Point

@[expose] public section

noncomputable section

namespace Cert.Val

open Cert.KernelIdeal Cert.KernelIdeal.Gen Cert.KernelIdeal.Hand Idealize.ShloMosaic

/-- Lane `x` of chunk `c` of a row. -/
def lane (c : Fin 20) (x : Fin 256) : Fin 5120 := ⟨256 * c + x, by omega⟩

theorem lane_surj (d : Fin 5120) : ∃ c x, lane c x = d := ⟨⟨d / 256, by omega⟩, ⟨d % 256, by omega⟩, Fin.ext (by simp only [lane]; omega)⟩

theorem sum_lane (f : Fin 5120 → EReal) : ∑ x : Fin 256, ∑ c : Fin 20, f (lane c x) = ∑ d, f d := by
  rw [Finset.sum_comm, ← Fintype.sum_prod_type']
  exact Fintype.sum_equiv (finProdFinEquiv (m := 20) (n := 256)) _ f fun p => congrArg f (Fin.ext (by simp [lane, finProdFinEquiv]; omega))

theorem max_zero_iSup {ι : Type*} (f : ι → EReal) (h : ∀ i, 0 ≤ f i) [Nonempty ι] (b : EReal) : (0 ≤ b ∧ ∀ i, f i ≤ b) ↔ ∀ i, f i ≤ b :=
  ⟨fun h => h.2, fun h' => ⟨(h (Classical.arbitrary ι)).trans (h' _), h'⟩⟩

theorem absf_eq (x : EReal) : FloatOps.absf (F := Ideal) (φ := .f32) x = av x := rfl

section Group
variable (LX : ℕ → ℕ → Vec Ideal S32x256 .bf16) (LG : ℕ → Vec Ideal S1x256 .f32) (r : ℕ)

theorem ssqN_at (n : ℕ) (i : Fin 32) (x : Fin 256) :
    ssqN LX r n (ix2 i x) = ∑ c ∈ Finset.range n, LX r c (ix2 i x) * LX r c (ix2 i x) := by
  induction n with
  | zero => exact c_zero
  | succ n ih =>
    rw [Finset.sum_range_succ, ← ih]
    pointwise [ssqN, xf]

theorem amaxN_le (n : ℕ) (i : Fin 32) (x : Fin 256) (b : EReal) :
    amaxN LX LG r n (ix2 i x) ≤ b ↔ 0 ≤ b ∧ ∀ c < n, av (LX r c (ix2 i x) * LG c (ix2 0 x)) ≤ b := by
  induction n with
  | zero =>
    show Ideal.ofBits .f32 0x00000000#32 ≤ b ↔ _
    rw [c_zero]; simp
  | succ n ih =>
    have h : amaxN LX LG r (n + 1) (ix2 i x) = max (amaxN LX LG r n (ix2 i x)) (av (LX r n (ix2 i x) * LG n (ix2 0 x))) := by
      pointwise [amaxN, xf, gB]
      rfl
    rw [h, max_le_iff, ih]
    constructor
    · rintro ⟨⟨h0, h1⟩, h2⟩
      exact ⟨h0, fun c hc => (Nat.lt_succ_iff_lt_or_eq.mp hc).elim (h1 c) fun e => e ▸ h2⟩
    · rintro ⟨h0, h1⟩
      exact ⟨⟨h0, fun c hc => h1 c (Nat.lt_succ_of_lt hc)⟩, h1 n (Nat.lt_succ_self n)⟩

variable (u : Fin 32 → Fin 5120 → EReal) (g : Fin 5120 → EReal)
  (hX : ∀ (c : Fin 20) i x, LX r c (ix2 i x) = u i (lane c x)) (hG : ∀ (c : Fin 20) x, LG c (ix2 0 x) = g (lane c x))
include hX

theorem rms_at (i : Fin 32) : rms LX r (ix2 i 0) = rmsS (u i) := by
  have h : rms LX r (ix2 i 0) = Ideal.rsqrt ((∑ x, ssqN LX r 20 (ix2 i x)) * cD + cE) := by
    pointwise [rms]
    rfl
  have h2 : ∑ x, ssqN LX r 20 (ix2 i x) = ∑ d, u i d * u i d := by
    refine Eq.trans (Finset.sum_congr rfl fun x _ => ?_) (sum_lane fun d => u i d * u i d)
    rw [ssqN_at, Finset.sum_range]
    exact Finset.sum_congr rfl fun c _ => by rw [hX]
  rw [h2] at h
  exact h

include hG

theorem rowV_at (i : Fin 32) : rowV LX LG r (ix2 i 0) = rowVS (u i) g := by
  have h : rowV LX LG r (ix2 i 0) = Finset.fold max (Ideal.ofBits .f32 0xFF800000#32) (fun x => amaxN LX LG r 20 (ix2 i x)) Finset.univ
      * rms LX r (ix2 i 0) * c448 := by
    pointwise [rowV]
    rfl
  rw [h, rms_at LX r u hX, ← rowVS_eq]
  refine congrArg (fun s => s * rmsS (u i) * c448) (eq_of_forall_ge_iff fun b => ?_)
  rw [fold_max_le_iff, iSup_le_iff, ← max_zero_iSup _ (fun d => av_nonneg (u i d * g d))]
  constructor
  · intro hh
    refine ⟨((amaxN_le LX LG r 20 i 0 b).mp (hh 0 (Finset.mem_univ _))).1, fun d => ?_⟩
    obtain ⟨c, x, rfl⟩ := lane_surj d
    have h2 := ((amaxN_le LX LG r 20 i x b).mp (hh x (Finset.mem_univ _))).2 c c.isLt
    rwa [hX, hG] at h2
  · rintro ⟨h0, h1⟩ x -
    refine (amaxN_le LX LG r 20 i x b).mpr ⟨h0, fun c hc => ?_⟩
    have h2 := h1 (lane ⟨c, hc⟩ x)
    rwa [← hX ⟨c, hc⟩ i x, ← hG ⟨c, hc⟩ x] at h2

theorem rowCode_at (c : Fin 20) (i : Fin 32) (x : Fin 256) : rowCode LX LG r c (ix2 i x) = xcode (u i) g (lane c x) := by
  have h : rowCode LX LG r c (ix2 i x) = codeS (LX r c (ix2 i x) * rms LX r (ix2 i 0) * LG c (ix2 0 x))
      (pow2 (F := Ideal) (subi (broadcast S32x1 0#32) (expo (rowV LX LG r))) (ix2 i 0)) := by
    pointwise [rowCode, xf, gB]
    rfl
  rw [h, pow2_neg_expo, rowV_at LX LG r u g hX hG, rms_at LX r u hX, hX, hG]
  rfl

theorem rowScale_at (i : Fin 32) (x : Fin 128) : rowScale LX LG r (ix2 i x) = xscale (u i) g := by
  have h : rowScale LX LG r (ix2 i x) = pow2 (F := Ideal) (expo (rowV LX LG r)) (ix2 i 0) := by
    pointwise [rowScale]
  rw [h, pow2_expo, rowV_at LX LG r u g hX hG]
  rfl

end Group

theorem tile_at (C : Vec Ideal S256x5120 .fp8e4m3) (E : Vec Ideal S256x1 .f32) (w : Vec Ideal S5120x768 .fp8e4m3) (i : Fin 256) (j : Fin 768) :
    tile C E w (ix2 i j) = (∑ k : Fin 5120, C (ix2 i k) * w (ix2 k j)) * E (ix2 i 0) := by
  pointwise [tile]

/-- Row `q` of the eight-row groups, at place `i`. -/
def rowAt (q : Fin 32) (i : Fin 8) : Fin 256 := ⟨q * 8 + i, by omega⟩

theorem rowAt_surj (d : Fin 256) : ∃ q i, rowAt q i = d := ⟨⟨d / 8, by omega⟩, ⟨d % 8, by omega⟩, Fin.ext (by simp only [rowAt]; omega)⟩

theorem colMax_le (p : Vec Ideal S8x768 .f32) (t : FVec Ideal S256x768 .f32) (i : Fin 8) (j : Fin 768) (b : EReal) :
    colMax (F := Ideal) p t (ix2 i j) ≤ b ↔ p (ix2 i j) ≤ b ∧ ∀ q, av (t (ix2 (rowAt q i) j)) ≤ b := by
  have h : colMax (F := Ideal) p t (ix2 i j) = max (p (ix2 i j))
      (Finset.fold max (Ideal.ofBits .f32 0xFF800000#32) (fun q => av (t (ix2 (rowAt q i) j))) Finset.univ) := by
    pointwise [colMax]
    rfl
  rw [h, max_le_iff, fold_max_le_iff]
  simp

/-- A head's scaled maximum, from the column maxima and the weights' scales. -/
def headVS (m : Fin 8 → Fin 128 → EReal) (w : Fin 128 → EReal) : EReal := (⨆ j, (⨆ i, m i j) * av (w j)) * c448

theorem fold_max_eq {ι : Type*} [Fintype ι] (f : ι → EReal) : Finset.fold max (Ideal.ofBits .f32 0xFF800000#32) f Finset.univ = ⨆ i, f i := by
  refine eq_of_forall_ge_iff fun b => ?_
  rw [fold_max_le_iff, iSup_le_iff]
  simp

theorem headV_at (w : Vec Ideal S1x128 .f32) (cm : Vec Ideal S8x128 .f32) (j : Fin 128) :
    headV (F := Ideal) w cm (ix2 0 j) = headVS (fun i j => cm (ix2 i j)) (fun j => w (ix2 0 j)) := by
  unfold headVS
  simp only [← fold_max_eq]
  pointwise [headV, k1_pay4, k1_pay3]
  rfl

theorem headCode_at (w : Vec Ideal S1x128 .f32) (cm : Vec Ideal S8x128 .f32) (y : Vec Ideal S512x128 .f32) (a b : Fin 1) (i : Fin 512) (j : Fin 128) :
    headCode (F := Ideal) w cm y (ix4 a b i j) = codeS (y (ix2 i j) * w (ix2 0 j)) (invR (headVS (fun i j => cm (ix2 i j)) (fun j => w (ix2 0 j)))) := by
  have h : headCode (F := Ideal) w cm y (ix4 a b i j) = codeS (y (ix2 i j) * w (ix2 0 j))
      (pow2 (F := Ideal) (subi (broadcast S1x128 0#32) (expo (headV w cm))) (ix2 0 j)) := by
    pointwise [headCode]
    rfl
  rw [h, pow2_neg_expo, headV_at]

theorem headScale_at (w : Vec Ideal S1x128 .f32) (cm : Vec Ideal S8x128 .f32) (j : Fin 128) :
    headScale (F := Ideal) w cm (ix2 0 j) = scaleR (headVS (fun i j => cm (ix2 i j)) (fun j => w (ix2 0 j))) := by
  rw [← headV_at w cm j, ← pow2_expo]; rfl

end Cert.Val
-- ==== Proof.Hand.Blocks0.lean ====
/- What one step of the projection kernel leaves in its result blocks. -/
module

public import proofs.«01_k».proof.Proof.Hand.Rows

@[expose] public section

noncomputable section

namespace Cert.Val

open Cert.KernelIdeal Cert.KernelIdeal.Gen Cert.KernelIdeal.Hand Idealize.ShloMosaic Idealize.ShloMosaic.TcCoe

/-- Row `a` of group `r`; column `x` of tile `j`. -/
def grp (r : Fin 8) (a : Fin 32) : Fin 256 := ⟨32 * r + a, by omega⟩
def col (j : Fin 5) (x : Fin 768) : Fin 3840 := ⟨768 * j + x, by omega⟩

theorem col_surj (n : Fin 3840) : ∃ j x, col j x = n := ⟨⟨n / 768, by omega⟩, ⟨n % 768, by omega⟩, Fin.ext (by simp only [col]; omega)⟩

/-! Rectangles of a matrix. -/

theorem emb2 {m n o0 o1 s0 s1 : ℕ} {inb} (a : Fin s0) (b : Fin s1) (i : Fin m) (j : Fin n) (hi : (i : ℕ) = o0 + a) (hj : (j : ℕ) = o1 + b) :
    (Rect.unit (s := ⟨2, ![m, n]⟩) ![o0, o1] ![s0, s1] inb).emb (ix2 a b) = ix2 i j := by
  funext d
  refine Fin.ext ((Rect.idx_unit_val _ _ _ _ d).trans ?_)
  fin_cases d
  · exact hi.symm
  · exact hj.symm

theorem mem2 {m n o0 o1 s0 s1 : ℕ} {inb} (i : Fin m) (j : Fin n) :
    ix2 i j ∈ (Rect.unit (s := ⟨2, ![m, n]⟩) ![o0, o1] ![s0, s1] inb).set ↔ (o0 ≤ i ∧ (i : ℕ) < o0 + s0) ∧ (o1 ≤ j ∧ (j : ℕ) < o1 + s1) := by
  rw [Rect.mem_set_unit]
  exact Fin.forall_fin_two

theorem rectAt2 {m n o0 o1 s0 s1 : ℕ} {inb} {e : EltTy} (w : (⟨2, ![s0, s1]⟩ : Shape).Idx → Elt Ideal e) (i : Fin m) (j : Fin n) (v : Elt Ideal e)
    (h : ∀ (a : Fin s0) (b : Fin s1), (i : ℕ) = o0 + a → (j : ℕ) = o1 + b → w (ix2 a b) = v) :
    View.RectAt (Val := Elt Ideal) (ix2 i j) (Rect.unit (s := ⟨2, ![m, n]⟩) ![o0, o1] ![s0, s1] inb) w v := by
  intro x hx
  obtain ⟨a, b, rfl⟩ : ∃ (a : Fin s0) (b : Fin s1), x = ix2 a b := ⟨x 0, x 1, eq_ix2 _⟩
  refine h a b ?_ ?_
  · exact (congrArg (fun y : (⟨2, ![m, n]⟩ : Shape).Idx => (y 0 : ℕ)) hx).symm.trans (Rect.idx_unit_val _ _ _ _ 0)
  · exact (congrArg (fun y : (⟨2, ![m, n]⟩ : Shape).Idx => (y 1 : ℕ)) hx).symm.trans (Rect.idx_unit_val _ _ _ _ 1)

theorem canonFn {S : Shape} {e : EltTy} {N : ℕ} (R : Fin N → Rect S) (P : (k : Fin N) → (R k).shape.Idx → Elt Ideal e) (y : S.Idx) (v : Elt Ideal e)
    (k : Fin N) (hk : y ∈ (R k).set) (h : ∀ k, View.RectAt (Val := Elt Ideal) y (R k) (P k) v) :
    View.canon (Val := Elt Ideal) (List.ofFn fun k => (⟨R k, P k⟩ : View.Piece (Elt Ideal) S e)) y = v :=
  View.canon_ofFn_eq_of_forall R P y v ⟨k, hk⟩ h

theorem xR_mem (r c : ℕ) (i : Fin 256) (d : Fin 5120) (h1 : 32 * (r % 8) ≤ i ∧ (i : ℕ) < 32 * (r % 8) + 32) (h2 : 256 * (c % 20) ≤ d ∧ (d : ℕ) < 256 * (c % 20) + 256) :
    ix2 i d ∈ (xR r c).set := (mem2 i d).mpr ⟨h1, h2⟩
theorem eR_mem (r : ℕ) (i : Fin 256) (d : Fin 128) (h1 : 32 * (r % 8) ≤ i ∧ (i : ℕ) < 32 * (r % 8) + 32) :
    ix2 i d ∈ (eR r).set := (mem2 i d).mpr ⟨h1, Nat.zero_le _, by omega⟩
theorem pR_mem (k : ℕ) (i : Fin 256) (n : Fin 3840) (h1 : 768 * (k % 5) ≤ n ∧ (n : ℕ) < 768 * (k % 5) + 768) :
    ix2 i n ∈ (pR k).set := (mem2 i n).mpr ⟨⟨Nat.zero_le _, by omega⟩, h1⟩
theorem mR_mem (k : ℕ) (i : Fin 8) (n : Fin 3840) :
    ix2 i n ∈ (mR k).set ↔ 768 * (k % 5) ≤ n ∧ (n : ℕ) < 768 * (k % 5) + 768 :=
  (mem2 i n).trans ⟨fun h => h.2, fun h => ⟨⟨Nat.zero_le _, by omega⟩, h⟩⟩

theorem mR_hit (k : ℕ) (w : Vec Ideal S8x768 .f32) (L : List (View.Piece (Elt Ideal) S8x3840 .f32)) (i : Fin 8) (j : Fin 5) (x : Fin 768) (h : k % 5 = j) :
    View.canon (⟨mR k, w⟩ :: L) (ix2 i (col j x)) = w (ix2 i x) := by
  have e : (mR k).emb (ix2 i x : S8x768.Idx) = ix2 i (col j x) := emb2 i x i (col j x) (Nat.zero_add _).symm (by simp only [col]; omega)
  rw [← e]
  exact View.canon_cons_emb (mR k) w L (ix2 i x : S8x768.Idx)

theorem mR_miss (k : ℕ) (w : Vec Ideal S8x768 .f32) (L : List (View.Piece (Elt Ideal) S8x3840 .f32)) (i : Fin 8) (j : Fin 5) (x : Fin 768) (h : k % 5 ≠ j) :
    View.canon (⟨mR k, w⟩ :: L) (ix2 i (col j x)) = View.canon L (ix2 i (col j x)) := by
  refine View.canon_cons_of_not_mem (⟨mR k, w⟩ : View.Piece (Elt Ideal) S8x3840 .f32) L ?_
  intro hm
  have := (mR_mem k i (col j x)).mp hm
  simp only [col] at this
  omega

theorem mR_read (M : Memref sig .tc .vmem S8x3840 .f32) (L : List (View.Piece (Elt Ideal) S8x3840 .f32)) (k : ℕ) (i : Fin 8) (j : Fin 5) (x : Fin 768)
    (h : k % 5 = j) : (M.view.readCov L (mR k).toLoadRect : Vec Ideal S8x768 .f32) (ix2 i x) = View.canon L (ix2 i (col j x)) := by
  have e : (mR k).emb (ix2 i x : S8x768.Idx) = ix2 i (col j x) := emb2 i x i (col j x) (Nat.zero_add _).symm (by simp only [col]; omega)
  rw [← e]
  exact congrFun (View.readCov_eq_canon' M.view L (mR k).toLoadRect) (ix2 i x : S8x768.Idx)

section Lists
variable (LX : ℕ → ℕ → Vec Ideal S32x256 .bf16) (LG : ℕ → Vec Ideal S1x256 .f32)
  (X : Fin 256 → Fin 5120 → EReal) (g : Fin 5120 → EReal)
  (hX : ∀ (r : Fin 8) (c : Fin 20) a x, LX r c (ix2 a x) = X (grp r a) (lane c x)) (hG : ∀ (c : Fin 20) x, LG c (ix2 0 x) = g (lane c x))
include hX hG

theorem codeList_at (i : Fin 256) (d : Fin 5120) : View.canon (codeList LX LG) (ix2 i d) = xcode (X i) g d := by
  unfold codeList
  refine canonFn (e := .fp8e4m3) (fun k : Fin 160 => xR (7 - k / 20) (19 - k % 20)) (fun k => rowCode LX LG (7 - k / 20) (19 - k % 20)) _ _
    ⟨20 * (7 - i / 32) + (19 - d / 256), by omega⟩ (xR_mem _ _ i d (by simp only []; omega) (by simp only []; omega)) fun k => ?_
  refine rectAt2 (e := .fp8e4m3) (rowCode LX LG (7 - k / 20) (19 - k % 20)) i d _ fun a b h1 h2 => ?_
  have hr : 7 - k.val / 20 < 8 := by omega
  have hc : 19 - k.val % 20 < 20 := by omega
  have h := rowCode_at LX LG (7 - k / 20) (fun a => X (grp ⟨7 - k / 20, hr⟩ a)) g (hX ⟨7 - k / 20, hr⟩) hG ⟨19 - k % 20, hc⟩ a b
  have e1 : i = grp ⟨7 - k / 20, hr⟩ a := Fin.ext (by simp only [grp]; omega)
  have e2 : d = lane ⟨19 - k % 20, hc⟩ b := Fin.ext (by simp only [lane]; omega)
  rw [e1, e2]
  exact h

theorem scaleList_at (i : Fin 256) (d : Fin 128) : View.canon (scaleList LX LG) (ix2 i d) = xscale (X i) g := by
  unfold scaleList
  refine canonFn (e := .f32) (fun k : Fin 8 => eR (7 - k)) (fun k => rowScale LX LG (7 - k)) _ _
    ⟨7 - i / 32, by omega⟩ (eR_mem _ i d (by simp only []; omega)) fun k => ?_
  refine rectAt2 (e := .f32) (rowScale LX LG (7 - k)) i d _ fun a b h1 h2 => ?_
  have hr : 7 - k.val < 8 := by omega
  have h := rowScale_at LX LG (7 - k) (fun a => X (grp ⟨7 - k, hr⟩ a)) g (hX ⟨7 - k, hr⟩) hG a b
  have e1 : i = grp ⟨7 - k, hr⟩ a := Fin.ext (by simp only [grp]; omega)
  rw [e1]
  exact h
end Lists

section Tiles
variable (T : ℕ → FVec Ideal S256x768 .f32) (Y : Fin 256 → Fin 3840 → EReal) (hT : ∀ (j : Fin 5) i x, T j (ix2 i x) = Y i (col j x))

include hT in
theorem tiles_at (i : Fin 256) (n : Fin 3840) :
    View.canon (List.ofFn fun k : Fin 5 => (⟨pR (4 - k), T (4 - k)⟩ : View.Piece (Elt Ideal) S256x3840 .f32)) (ix2 i n) = Y i n := by
  refine canonFn (e := .f32) (fun k : Fin 5 => pR (4 - k)) (fun k => T (4 - k)) _ _
    ⟨4 - n / 768, by omega⟩ (pR_mem _ i n (by simp only []; omega)) fun k => ?_
  refine rectAt2 (e := .f32) (T (4 - k)) i n _ fun a b h1 h2 => ?_
  have hj : 4 - k.val < 5 := by omega
  have h := hT ⟨4 - k, hj⟩ a b
  have e1 : i = a := Fin.ext (by omega)
  have e2 : n = col ⟨4 - k, hj⟩ b := Fin.ext (by simp only [col]; omega)
  rw [e1, e2]
  exact h

include hT in
/-- The column maxima of a later step: the larger of what was there and the tile's. -/
theorem maxListB_le (P : ℕ → Vec Ideal S8x768 .f32) (M : Fin 8 → Fin 3840 → EReal) (hP : ∀ (j : Fin 5) i x, P j (ix2 i x) = M i (col j x))
    (i : Fin 8) (n : Fin 3840) (b : EReal) :
    View.canon (maxListB P T) (ix2 i n) ≤ b ↔ M i n ≤ b ∧ ∀ q, av (Y (rowAt q i) n) ≤ b := by
  obtain ⟨j, x, rfl⟩ := col_surj n
  have h : View.canon (maxListB P T) (ix2 i (col j x)) = colMax (P j) (T j) (ix2 i x) := by
    unfold maxListB
    refine canonFn (e := .f32) (fun k : Fin 5 => mR (4 - k)) (fun k => colMax (P (4 - k)) (T (4 - k))) _ _
      ⟨4 - j, by omega⟩ ((mR_mem _ i (col j x)).mpr (by simp only [col]; omega)) fun k => ?_
    refine rectAt2 (e := .f32) (colMax (P (4 - k)) (T (4 - k))) i (col j x) _ fun a b h1 h2 => ?_
    simp only [col] at h2
    have hj : 4 - k.val = j := by omega
    have e1 : i = a := Fin.ext (by omega)
    have e2 : x = b := Fin.ext (by omega)
    rw [e1, e2, hj]
  rw [h, colMax_le, hP]
  simp only [hT]

/-- The column maxima of the first step. -/
theorem maxList_at (Mr : Memref sig .tc .vmem S8x3840 .f32) : ∀ k, k ≤ 5 → ∀ (i : Fin 8) (j : Fin 5) (x : Fin 768),
    View.canon (maxList Mr T k) (ix2 i (col j x)) = if j.val < k then colMax (F := Ideal) (fun _ => (0 : EReal)) (T j) (ix2 i x) else 0 := by
  intro k
  induction k with
  | zero =>
    intro _ i j x
    rw [if_neg (by omega)]
    unfold maxList
    exact (congrFun (View.canon_cons_unit_lit _ _ _ (fun a => by fin_cases a <;> rfl)) _).trans c_zero
  | succ k ih =>
    intro hk i j x
    have ih := ih (by omega)
    have e : maxList Mr T (k + 1) = ⟨mR k, colMax (Mr.view.readCov (maxList Mr T k) (mR k).toLoadRect) (T k)⟩ :: maxList Mr T k := rfl
    rw [e]
    by_cases hj : j.val = k
    · refine (mR_hit k _ _ i j x (by omega)).trans ?_
      rw [if_pos (by omega), hj]
      refine congrArg (fun p : Vec Ideal S8x768 .f32 => colMax (F := Ideal) p (T k) (ix2 i x)) ?_
      funext y
      obtain ⟨a, b, rfl⟩ : ∃ (a : Fin 8) (b : Fin 768), y = ix2 a b := ⟨y 0, y 1, eq_ix2 _⟩
      refine (mR_read Mr (maxList Mr T k) k a j b (by omega)).trans ?_
      rw [ih a j b, if_neg (by omega)]
    · refine (mR_miss k _ _ i j x (by omega)).trans ?_
      rw [ih i j x]
      by_cases h : j.val < k
      · rw [if_pos h, if_pos (by omega)]
      · rw [if_neg h, if_neg (by omega)]

include hT in
theorem maxList_le (Mr : Memref sig .tc .vmem S8x3840 .f32) (i : Fin 8) (n : Fin 3840) (b : EReal) :
    View.canon (maxList Mr T 5) (ix2 i n) ≤ b ↔ ∀ q, av (Y (rowAt q i) n) ≤ b := by
  obtain ⟨j, x, rfl⟩ := col_surj n
  rw [maxList_at T Mr 5 le_rfl i j x, if_pos j.isLt, colMax_le, ← max_zero_iSup _ (fun q => av_nonneg (Y (rowAt q i) (col j x)))]
  simp only [hT]
end Tiles

end Cert.Val
-- ==== Proof.Hand.Outs0.lean ====
/- What the projection kernel's result blocks hold after each grid point. -/
module

public import proofs.«01_k».proof.Proof.Hand.Blocks0
public import Idealize.ShloMosaic.Lib.WholeRead

@[expose] public section

noncomputable section

namespace Cert.Val

open Cert.KernelIdeal Cert.KernelIdeal.Gen Cert.KernelIdeal.Hand Idealize.ShloMosaic Idealize.ShloMosaic.TcCoe

/-- Rows, gamma and columns of the blocks. -/
def rowB (x0 : Vec Ideal S256x5120 .bf16) (i : Fin 256) (d : Fin 5120) : EReal := x0 (ix2 i d)
def gamB (x1 : Vec Ideal S1x5120 .f32) (d : Fin 5120) : EReal := x1 (ix2 0 d)
def colB (x2 : Vec Ideal S5120x3840 .fp8e4m3) (n : Fin 3840) (d : Fin 5120) : EReal := x2 (ix2 d n)

section Run
variable (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S256x5120 .fp8e4m3) (harg4 : arg4.IsWhole) (arg5 : Memref sig .tc .vmem S256x128 .f32) (harg5 : arg5.IsWhole) (arg6 : Memref sig .tc .vmem S256x3840 .f32) (harg6 : arg6.IsWhole) (arg7 : Memref sig .tc .vmem S8x3840 .f32) (harg7 : arg7.IsWhole)
variable (x0 : Vec Ideal S256x5120 .bf16) (x1 : Vec Ideal S1x5120 .f32) (x2 : Vec Ideal S5120x3840 .fp8e4m3) (xo : Vec Ideal S8x3840 .f32)

theorem ldX_at (r : Fin 8) (k : Fin 20) (a : Fin 32) (x : Fin 256) : ldX arg1 harg1 x0 r k (ix2 a x) = rowB x0 (grp r a) (lane k x) := by
  have e : (xR r k).emb (ix2 a x : S32x256.Idx) = ix2 (grp r a) (lane k x) :=
    emb2 a x (grp r a) (lane k x) (by simp only [grp]; omega) (by simp only [lane]; omega)
  unfold rowB
  rw [← e]
  exact harg1.readAt_unread x0 (xR r k).toLoadRect (ix2 a x : S32x256.Idx)

theorem ldG_at (k : Fin 20) (x : Fin 256) : ldG arg2 harg2 x1 k (ix2 0 x) = gamB x1 (lane k x) := by
  have e : (gR k).emb (ix2 0 x : S1x256.Idx) = ix2 0 (lane k x) := emb2 0 x 0 (lane k x) rfl (by simp only [lane]; omega)
  unfold gamB
  rw [← e]
  exact harg2.readAt_unread x1 (gR k).toLoadRect (ix2 0 x : S1x256.Idx)

theorem ldW_at (j : Fin 5) (d : Fin 5120) (x : Fin 768) : ldW arg3 harg3 x2 j (ix2 d x) = colB x2 (col j x) d := by
  have e : (wR j).emb (ix2 d x : S5120x768.Idx) = ix2 d (col j x) := emb2 d x d (col j x) (Nat.zero_add _).symm (by simp only [col]; omega)
  unfold colB
  rw [← e]
  exact harg3.readAt_unread x2 (wR j).toLoadRect (ix2 d x : S5120x768.Idx)

theorem ldP_at (j : Fin 5) (a : Fin 8) (x : Fin 768) :
    (View.readAt (Elt Ideal) arg7.view (mR j).toLoadRect (harg7.unread xo) : Vec Ideal S8x768 .f32) (ix2 a x) = xo (ix2 a (col j x)) := by
  have e : (mR j).emb (ix2 a x : S8x768.Idx) = ix2 a (col j x) := emb2 a x a (col j x) (Nat.zero_add _).symm (by simp only [col]; omega)
  rw [← e]
  exact harg7.readAt_unread xo (mR j).toLoadRect (ix2 a x : S8x768.Idx)

theorem codesRun_at (a : Fin 256) (d : Fin 5120) :
    View.canon (codeList (ldX arg1 harg1 x0) (ldG arg2 harg2 x1)) (ix2 a d) = xcode (rowB x0 a) (gamB x1) d :=
  codeList_at _ _ (rowB x0) (gamB x1) (ldX_at arg1 harg1 x0) (ldG_at arg2 harg2 x1) a d

theorem scalesRun_at (a : Fin 256) (d : Fin 128) :
    View.canon (scaleList (ldX arg1 harg1 x0) (ldG arg2 harg2 x1)) (ix2 a d) = xscale (rowB x0 a) (gamB x1) :=
  scaleList_at _ _ (rowB x0) (gamB x1) (ldX_at arg1 harg1 x0) (ldG_at arg2 harg2 x1) a d

/-- A product tile, its codes and scales read back from the blocks just stored. -/
theorem tileRun_at (L3 : List (View.Piece (Elt Ideal) S256x5120 .fp8e4m3)) (h3 : L3 = codeList (ldX arg1 harg1 x0) (ldG arg2 harg2 x1))
    (L4 : List (View.Piece (Elt Ideal) S256x128 .f32)) (h4 : L4 = scaleList (ldX arg1 harg1 x0) (ldG arg2 harg2 x1))
    (j : Fin 5) (a : Fin 256) (x : Fin 768) :
    tile (F := Ideal) (arg4.view.readCov L3 allR.toLoadRect) (arg5.view.readCov L4 oneR.toLoadRect) (ldW arg3 harg3 x2 j) (ix2 a x)
      = projS (rowB x0 a) (gamB x1) (colB x2 (col j x)) := by
  subst h3 h4
  refine (tile_at _ _ _ a x).trans ?_
  have e3 : ∀ k : Fin 5120, (arg4.view.readCov (codeList (ldX arg1 harg1 x0) (ldG arg2 harg2 x1)) allR.toLoadRect : Vec Ideal S256x5120 .fp8e4m3) (ix2 a k)
      = xcode (rowB x0 a) (gamB x1) k := fun k => by
    have e : allR.emb (ix2 a k : S256x5120.Idx) = ix2 a k := emb2 a k a k (Nat.zero_add _).symm (Nat.zero_add _).symm
    rw [← codesRun_at arg1 harg1 arg2 harg2 x0 x1 a k]
    refine (congrFun (View.readCov_eq_canon' arg4.view (codeList (ldX arg1 harg1 x0) (ldG arg2 harg2 x1)) allR.toLoadRect) (ix2 a k : S256x5120.Idx)).trans ?_
    exact congrArg _ e
  have e4 : (arg5.view.readCov (scaleList (ldX arg1 harg1 x0) (ldG arg2 harg2 x1)) oneR.toLoadRect : Vec Ideal S256x1 .f32) (ix2 a 0)
      = xscale (rowB x0 a) (gamB x1) := by
    have e : oneR.emb (ix2 a (0 : Fin 1) : S256x1.Idx) = ix2 a 0 := emb2 a (0 : Fin 1) a 0 (Nat.zero_add _).symm rfl
    rw [← scalesRun_at arg1 harg1 arg2 harg2 x0 x1 a 0]
    exact (congrFun (View.readCov_eq_canon' arg5.view (scaleList (ldX arg1 harg1 x0) (ldG arg2 harg2 x1)) oneR.toLoadRect) (ix2 a (0 : Fin 1) : S256x1.Idx)).trans (congrArg _ e)
  unfold projS
  refine congr (congrArg _ (Finset.sum_congr rfl fun k _ => ?_)) e4
  exact congr (congrArg _ (e3 k)) (ldW_at arg3 harg3 x2 j k x)

/-- The product tiles of a step, as functions of the tile's number. -/
def tileRun (L3 : List (View.Piece (Elt Ideal) S256x5120 .fp8e4m3)) (L4 : List (View.Piece (Elt Ideal) S256x128 .f32)) (j : ℕ) : FVec Ideal S256x768 .f32 :=
  tile (F := Ideal) (arg4.view.readCov L3 allR.toLoadRect) (arg5.view.readCov L4 oneR.toLoadRect) (ldW arg3 harg3 x2 j)

theorem outA_3 (hc0) (a : Fin 256) (d : Fin 5120) :
    out0_A_3 (F := Ideal) c i arg1 harg1 arg2 harg2 arg3 harg3 arg4 harg4 arg5 harg5 arg6 harg6 arg7 harg7 hc0 x0 x1 x2 (ix2 a d) = xcode (rowB x0 a) (gamB x1) d := by
  unfold out0_A_3
  rw [View.read_writes_junk_apply_eq_canon, runA_3]
  exact codesRun_at arg1 harg1 arg2 harg2 x0 x1 a d

theorem outA_4 (hc0) (a : Fin 256) (d : Fin 128) :
    out0_A_4 (F := Ideal) c i arg1 harg1 arg2 harg2 arg3 harg3 arg4 harg4 arg5 harg5 arg6 harg6 arg7 harg7 hc0 x0 x1 x2 (ix2 a d) = xscale (rowB x0 a) (gamB x1) := by
  unfold out0_A_4
  rw [View.read_writes_junk_apply_eq_canon, runA_4]
  exact scalesRun_at arg1 harg1 arg2 harg2 x0 x1 a d

theorem outA_5 (hc0) (a : Fin 256) (n : Fin 3840) :
    out0_A_5 (F := Ideal) c i arg1 harg1 arg2 harg2 arg3 harg3 arg4 harg4 arg5 harg5 arg6 harg6 arg7 harg7 hc0 x0 x1 x2 (ix2 a n)
      = projS (rowB x0 a) (gamB x1) (colB x2 n) := by
  unfold out0_A_5
  rw [View.read_writes_junk_apply_eq_canon, runA_5]
  exact tiles_at (tileRun arg3 harg3 arg4 arg5 x2 (kernelRun0_A (F := Ideal) c i arg1 harg1 arg2 harg2 arg3 harg3 arg4 harg4 arg5 harg5 arg6 harg6 arg7 harg7 hc0 x0 x1 x2).1 (kernelRun0_A (F := Ideal) c i arg1 harg1 arg2 harg2 arg3 harg3 arg4 harg4 arg5 harg5 arg6 harg6 arg7 harg7 hc0 x0 x1 x2).2.1) (fun a n => projS (rowB x0 a) (gamB x1) (colB x2 n))
    (fun j a x => tileRun_at arg1 harg1 arg2 harg2 arg3 harg3 arg4 arg5 x0 x1 x2 (kernelRun0_A (F := Ideal) c i arg1 harg1 arg2 harg2 arg3 harg3 arg4 harg4 arg5 harg5 arg6 harg6 arg7 harg7 hc0 x0 x1 x2).1 (runA_3 c i arg1 harg1 arg2 harg2 arg3 harg3 arg4 harg4 arg5 harg5 arg6 harg6 arg7 harg7 x0 x1 x2 hc0) (kernelRun0_A (F := Ideal) c i arg1 harg1 arg2 harg2 arg3 harg3 arg4 harg4 arg5 harg5 arg6 harg6 arg7 harg7 hc0 x0 x1 x2).2.1 (runA_4 c i arg1 harg1 arg2 harg2 arg3 harg3 arg4 harg4 arg5 harg5 arg6 harg6 arg7 harg7 x0 x1 x2 hc0) j a x) a n

theorem outA_6 (hc0) (a : Fin 8) (n : Fin 3840) (b : EReal) :
    out0_A_6 (F := Ideal) c i arg1 harg1 arg2 harg2 arg3 harg3 arg4 harg4 arg5 harg5 arg6 harg6 arg7 harg7 hc0 x0 x1 x2 (ix2 a n) ≤ b
      ↔ ∀ q, av (projS (rowB x0 (rowAt q a)) (gamB x1) (colB x2 n)) ≤ b := by
  unfold out0_A_6
  rw [View.read_writes_junk_apply_eq_canon, runA_6]
  exact maxList_le (tileRun arg3 harg3 arg4 arg5 x2 (kernelRun0_A (F := Ideal) c i arg1 harg1 arg2 harg2 arg3 harg3 arg4 harg4 arg5 harg5 arg6 harg6 arg7 harg7 hc0 x0 x1 x2).1 (kernelRun0_A (F := Ideal) c i arg1 harg1 arg2 harg2 arg3 harg3 arg4 harg4 arg5 harg5 arg6 harg6 arg7 harg7 hc0 x0 x1 x2).2.1) (fun a n => projS (rowB x0 a) (gamB x1) (colB x2 n))
    (fun j a x => tileRun_at arg1 harg1 arg2 harg2 arg3 harg3 arg4 arg5 x0 x1 x2 (kernelRun0_A (F := Ideal) c i arg1 harg1 arg2 harg2 arg3 harg3 arg4 harg4 arg5 harg5 arg6 harg6 arg7 harg7 hc0 x0 x1 x2).1 (runA_3 c i arg1 harg1 arg2 harg2 arg3 harg3 arg4 harg4 arg5 harg5 arg6 harg6 arg7 harg7 x0 x1 x2 hc0) (kernelRun0_A (F := Ideal) c i arg1 harg1 arg2 harg2 arg3 harg3 arg4 harg4 arg5 harg5 arg6 harg6 arg7 harg7 hc0 x0 x1 x2).2.1 (runA_4 c i arg1 harg1 arg2 harg2 arg3 harg3 arg4 harg4 arg5 harg5 arg6 harg6 arg7 harg7 x0 x1 x2 hc0) j a x) arg7 a n b

theorem outB_3 (hc0) (a : Fin 256) (d : Fin 5120) :
    out0_B_3 (F := Ideal) c i arg1 harg1 arg2 harg2 arg3 harg3 arg4 harg4 arg5 harg5 arg6 harg6 arg7 harg7 hc0 x0 x1 x2 xo (ix2 a d) = xcode (rowB x0 a) (gamB x1) d := by
  unfold out0_B_3
  rw [View.read_writes_junk_apply_eq_canon, runB_3]
  exact codesRun_at arg1 harg1 arg2 harg2 x0 x1 a d

theorem outB_4 (hc0) (a : Fin 256) (d : Fin 128) :
    out0_B_4 (F := Ideal) c i arg1 harg1 arg2 harg2 arg3 harg3 arg4 harg4 arg5 harg5 arg6 harg6 arg7 harg7 hc0 x0 x1 x2 xo (ix2 a d) = xscale (rowB x0 a) (gamB x1) := by
  unfold out0_B_4
  rw [View.read_writes_junk_apply_eq_canon, runB_4]
  exact scalesRun_at arg1 harg1 arg2 harg2 x0 x1 a d

theorem outB_5 (hc0) (a : Fin 256) (n : Fin 3840) :
    out0_B_5 (F := Ideal) c i arg1 harg1 arg2 harg2 arg3 harg3 arg4 harg4 arg5 harg5 arg6 harg6 arg7 harg7 hc0 x0 x1 x2 xo (ix2 a n)
      = projS (rowB x0 a) (gamB x1) (colB x2 n) := by
  unfold out0_B_5
  rw [View.read_writes_junk_apply_eq_canon, runB_5]
  exact tiles_at (tileRun arg3 harg3 arg4 arg5 x2 (kernelRun0_B (F := Ideal) c i arg1 harg1 arg2 harg2 arg3 harg3 arg4 harg4 arg5 harg5 arg6 harg6 arg7 harg7 hc0 x0 x1 x2 xo).1 (kernelRun0_B (F := Ideal) c i arg1 harg1 arg2 harg2 arg3 harg3 arg4 harg4 arg5 harg5 arg6 harg6 arg7 harg7 hc0 x0 x1 x2 xo).2.1) (fun a n => projS (rowB x0 a) (gamB x1) (colB x2 n))
    (fun j a x => tileRun_at arg1 harg1 arg2 harg2 arg3 harg3 arg4 arg5 x0 x1 x2 (kernelRun0_B (F := Ideal) c i arg1 harg1 arg2 harg2 arg3 harg3 arg4 harg4 arg5 harg5 arg6 harg6 arg7 harg7 hc0 x0 x1 x2 xo).1 (runB_3 c i arg1 harg1 arg2 harg2 arg3 harg3 arg4 harg4 arg5 harg5 arg6 harg6 arg7 harg7 x0 x1 x2 xo hc0) (kernelRun0_B (F := Ideal) c i arg1 harg1 arg2 harg2 arg3 harg3 arg4 harg4 arg5 harg5 arg6 harg6 arg7 harg7 hc0 x0 x1 x2 xo).2.1 (runB_4 c i arg1 harg1 arg2 harg2 arg3 harg3 arg4 harg4 arg5 harg5 arg6 harg6 arg7 harg7 x0 x1 x2 xo hc0) j a x) a n

theorem outB_6 (hc0) (a : Fin 8) (n : Fin 3840) (b : EReal) :
    out0_B_6 (F := Ideal) c i arg1 harg1 arg2 harg2 arg3 harg3 arg4 harg4 arg5 harg5 arg6 harg6 arg7 harg7 hc0 x0 x1 x2 xo (ix2 a n) ≤ b
      ↔ xo (ix2 a n) ≤ b ∧ ∀ q, av (projS (rowB x0 (rowAt q a)) (gamB x1) (colB x2 n)) ≤ b := by
  unfold out0_B_6
  rw [View.read_writes_junk_apply_eq_canon, runB_6]
  exact maxListB_le (tileRun arg3 harg3 arg4 arg5 x2 (kernelRun0_B (F := Ideal) c i arg1 harg1 arg2 harg2 arg3 harg3 arg4 harg4 arg5 harg5 arg6 harg6 arg7 harg7 hc0 x0 x1 x2 xo).1 (kernelRun0_B (F := Ideal) c i arg1 harg1 arg2 harg2 arg3 harg3 arg4 harg4 arg5 harg5 arg6 harg6 arg7 harg7 hc0 x0 x1 x2 xo).2.1) (fun a n => projS (rowB x0 a) (gamB x1) (colB x2 n))
    (fun j a x => tileRun_at arg1 harg1 arg2 harg2 arg3 harg3 arg4 arg5 x0 x1 x2 (kernelRun0_B (F := Ideal) c i arg1 harg1 arg2 harg2 arg3 harg3 arg4 harg4 arg5 harg5 arg6 harg6 arg7 harg7 hc0 x0 x1 x2 xo).1 (runB_3 c i arg1 harg1 arg2 harg2 arg3 harg3 arg4 harg4 arg5 harg5 arg6 harg6 arg7 harg7 x0 x1 x2 xo hc0) (kernelRun0_B (F := Ideal) c i arg1 harg1 arg2 harg2 arg3 harg3 arg4 harg4 arg5 harg5 arg6 harg6 arg7 harg7 hc0 x0 x1 x2 xo).2.1 (runB_4 c i arg1 harg1 arg2 harg2 arg3 harg3 arg4 harg4 arg5 harg5 arg6 harg6 arg7 harg7 x0 x1 x2 xo hc0) j a x) _ (fun a n => xo (ix2 a n))
    (ldP_at arg7 harg7 xo) a n b
end Run

variable (V : (c : Dev nD) → (b : Ref sig .tc) → Buf (Elt Ideal) ((c : Thread nD τ).loc b)) (c : Dev nD)

/-- The blocks a grid point reads. -/
def bX (t : Fin cfg0.N) : Vec Ideal S256x5120 .bf16 := iblk0 V c 0 t
def bG (t : Fin cfg0.N) : Vec Ideal S1x5120 .f32 := iblk0 V c 1 t
def bW (t : Fin cfg0.N) : Vec Ideal S5120x3840 .fp8e4m3 := iblk0 V c 2 t

theorem eqA_3 (t : Fin cfg0.N) (h0 : t.val % 48 = 0) : (outsAt0 V c t.val t.isLt).1
    = out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (bX V c t) (bG V c t) (bW V c t) := by
  rw [outsAt0_A V c t h0]; unfold bX bG bW; dsimp only

theorem eqB_3 (t : Fin cfg0.N) (h0 : ¬ t.val % 48 = 0) : (outsAt0 V c t.val t.isLt).1
    = out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (bX V c t) (bG V c t) (bW V c t) (outsAt0 V c (t.val - 1) (Nat.lt_of_le_of_lt (Nat.sub_le _ _) t.isLt)).2.2.2 := by
  rw [outsAt0_B V c t h0]; unfold bX bG bW; dsimp only

theorem eqA_4 (t : Fin cfg0.N) (h0 : t.val % 48 = 0) : (outsAt0 V c t.val t.isLt).2.1
    = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (bX V c t) (bG V c t) (bW V c t) := by
  rw [outsAt0_A V c t h0]; unfold bX bG bW; dsimp only

theorem eqB_4 (t : Fin cfg0.N) (h0 : ¬ t.val % 48 = 0) : (outsAt0 V c t.val t.isLt).2.1
    = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (bX V c t) (bG V c t) (bW V c t) (outsAt0 V c (t.val - 1) (Nat.lt_of_le_of_lt (Nat.sub_le _ _) t.isLt)).2.2.2 := by
  rw [outsAt0_B V c t h0]; unfold bX bG bW; dsimp only

theorem eqA_5 (t : Fin cfg0.N) (h0 : t.val % 48 = 0) : (outsAt0 V c t.val t.isLt).2.2.1
    = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (bX V c t) (bG V c t) (bW V c t) := by
  rw [outsAt0_A V c t h0]; unfold bX bG bW; dsimp only

theorem eqB_5 (t : Fin cfg0.N) (h0 : ¬ t.val % 48 = 0) : (outsAt0 V c t.val t.isLt).2.2.1
    = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (bX V c t) (bG V c t) (bW V c t) (outsAt0 V c (t.val - 1) (Nat.lt_of_le_of_lt (Nat.sub_le _ _) t.isLt)).2.2.2 := by
  rw [outsAt0_B V c t h0]; unfold bX bG bW; dsimp only

theorem eqA_6 (t : Fin cfg0.N) (h0 : t.val % 48 = 0) : (outsAt0 V c t.val t.isLt).2.2.2
    = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (bX V c t) (bG V c t) (bW V c t) := by
  rw [outsAt0_A V c t h0]; unfold bX bG bW; dsimp only

theorem eqB_6 (t : Fin cfg0.N) (h0 : ¬ t.val % 48 = 0) : (outsAt0 V c t.val t.isLt).2.2.2
    = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (bX V c t) (bG V c t) (bW V c t) (outsAt0 V c (t.val - 1) (Nat.lt_of_le_of_lt (Nat.sub_le _ _) t.isLt)).2.2.2 := by
  rw [outsAt0_B V c t h0]; unfold bX bG bW; dsimp only

theorem after3_at (t : Fin cfg0.N) (a : Fin 256) (d : Fin 5120) : (outsAt0 V c t.val t.isLt).1 (ix2 a d) = xcode (rowB (bX V c t) a) (gamB (bG V c t)) d := by
  by_cases h0 : t.val % 48 = 0
  · rw [eqA_3 V c t h0]
    exact outA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bX V c t) (bG V c t) (bW V c t) ((hcond0_0 t).mpr h0) a d
  · rw [eqB_3 V c t h0]
    exact outB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bX V c t) (bG V c t) (bW V c t) (outsAt0 V c (t.val - 1) (Nat.lt_of_le_of_lt (Nat.sub_le _ _) t.isLt)).2.2.2 (fun h => h0 ((hcond0_0 t).mp h)) a d

theorem after4_at (t : Fin cfg0.N) (a : Fin 256) (d : Fin 128) : (outsAt0 V c t.val t.isLt).2.1 (ix2 a d) = xscale (rowB (bX V c t) a) (gamB (bG V c t)) := by
  by_cases h0 : t.val % 48 = 0
  · rw [eqA_4 V c t h0]
    exact outA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bX V c t) (bG V c t) (bW V c t) ((hcond0_0 t).mpr h0) a d
  · rw [eqB_4 V c t h0]
    exact outB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bX V c t) (bG V c t) (bW V c t) (outsAt0 V c (t.val - 1) (Nat.lt_of_le_of_lt (Nat.sub_le _ _) t.isLt)).2.2.2 (fun h => h0 ((hcond0_0 t).mp h)) a d

theorem after5_at (t : Fin cfg0.N) (a : Fin 256) (n : Fin 3840) : (outsAt0 V c t.val t.isLt).2.2.1 (ix2 a n) = projS (rowB (bX V c t) a) (gamB (bG V c t)) (colB (bW V c t) n) := by
  by_cases h0 : t.val % 48 = 0
  · rw [eqA_5 V c t h0]
    exact outA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bX V c t) (bG V c t) (bW V c t) ((hcond0_0 t).mpr h0) a n
  · rw [eqB_5 V c t h0]
    exact outB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bX V c t) (bG V c t) (bW V c t) (outsAt0 V c (t.val - 1) (Nat.lt_of_le_of_lt (Nat.sub_le _ _) t.isLt)).2.2.2 (fun h => h0 ((hcond0_0 t).mp h)) a n

/-- The column maxima after point `k`. -/
def cmAt (k : ℕ) (hk : k < cfg0.N) (a : Fin 8) (n : Fin 3840) : EReal := (outsAt0 V c k hk).2.2.2 (ix2 a n)

theorem cmAt_A (t : Fin cfg0.N) (h0 : t.val % 48 = 0) (a : Fin 8) (n : Fin 3840) (b : EReal) :
    cmAt V c t.val t.isLt a n ≤ b ↔ ∀ q, av (projS (rowB (bX V c t) (rowAt q a)) (gamB (bG V c t)) (colB (bW V c t) n)) ≤ b := by
  unfold cmAt
  rw [eqA_6 V c t h0]
  exact outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bX V c t) (bG V c t) (bW V c t) ((hcond0_0 t).mpr h0) a n b

theorem cmAt_B (t : Fin cfg0.N) (h0 : ¬ t.val % 48 = 0) (a : Fin 8) (n : Fin 3840) (b : EReal) :
    cmAt V c t.val t.isLt a n ≤ b ↔ cmAt V c (t.val - 1) (Nat.lt_of_le_of_lt (Nat.sub_le _ _) t.isLt) a n ≤ b
      ∧ ∀ q, av (projS (rowB (bX V c t) (rowAt q a)) (gamB (bG V c t)) (colB (bW V c t) n)) ≤ b := by
  unfold cmAt
  rw [eqB_6 V c t h0]
  exact outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bX V c t) (bG V c t) (bW V c t) (outsAt0 V c (t.val - 1) (Nat.lt_of_le_of_lt (Nat.sub_le _ _) t.isLt)).2.2.2 (fun h => h0 ((hcond0_0 t).mp h)) a n b

/-- After point `k` the column maxima bound exactly the products of the points up to `k`. -/
theorem after6_le (a : Fin 8) (n : Fin 3840) (b : EReal) : ∀ (k : ℕ) (hk : k < cfg0.N),
    cmAt V c k hk a n ≤ b
      ↔ ∀ (t : Fin cfg0.N), t.val ≤ k → ∀ q, av (projS (rowB (bX V c t) (rowAt q a)) (gamB (bG V c t)) (colB (bW V c t) n)) ≤ b := by
  intro k
  induction k with
  | zero =>
    intro hk
    refine (cmAt_A V c ⟨0, hk⟩ rfl a n b).trans ⟨fun h t ht => ?_, fun h => h ⟨0, hk⟩ le_rfl⟩
    have e : t = ⟨0, hk⟩ := Fin.ext (Nat.le_zero.mp ht)
    subst e; exact h
  | succ k ih =>
    intro hk
    have h48 : k + 1 < 48 := hk
    refine (cmAt_B V c ⟨k + 1, hk⟩ (by show ¬ (k + 1) % 48 = 0; omega) a n b).trans ⟨?_, fun h => ?_⟩
    · rintro ⟨h1, h2⟩ t ht
      rcases Nat.lt_or_ge t.val (k + 1) with h | h
      · exact (ih (by omega)).mp h1 t (by omega)
      · have e : t = ⟨k + 1, hk⟩ := Fin.ext (Nat.le_antisymm ht h)
        subst e; exact h2
    · exact ⟨(ih (by omega)).mpr fun t ht => h t (by omega), h ⟨k + 1, hk⟩ le_rfl⟩

end Cert.Val
-- ==== Proof.Hand.Arrays0.lean ====
/- The arrays the projection call leaves. -/
module

public import proofs.«01_k».proof.Proof.Hand.Outs0
public import Idealize.ShloMosaic.Lib.Pipeline.ValueKit.Geometry
public import Idealize.ShloMosaic.Lib.Pipeline.ValueKit.Acc

@[expose] public section

noncomputable section

namespace Cert.Val

open Cert.KernelIdeal Cert.KernelIdeal.Gen Cert.KernelIdeal.Hand Idealize.ShloMosaic Idealize.ShloMosaic.TcCoe

theorem index0_0 : ∀ t : Fin cfg0.N, win0_0.index t = ![t.val, 0] := (by decide +kernel : ∀ t : Fin grid0.N, win0_0.index t = ![t.val, 0])
theorem index0_1 : ∀ t : Fin cfg0.N, win0_1.index t = ![0, 0] := (by decide +kernel : ∀ t : Fin grid0.N, win0_1.index t = ![0, 0])
theorem index0_2 : ∀ t : Fin cfg0.N, win0_2.index t = ![0, 0] := (by decide +kernel : ∀ t : Fin grid0.N, win0_2.index t = ![0, 0])
theorem index0_3 : ∀ t : Fin cfg0.N, win0_3.index t = ![t.val, 0] := (by decide +kernel : ∀ t : Fin grid0.N, win0_3.index t = ![t.val, 0])
theorem index0_4 : ∀ t : Fin cfg0.N, win0_4.index t = ![t.val, 0] := (by decide +kernel : ∀ t : Fin grid0.N, win0_4.index t = ![t.val, 0])
theorem index0_5 : ∀ t : Fin cfg0.N, win0_5.index t = ![t.val, 0] := (by decide +kernel : ∀ t : Fin grid0.N, win0_5.index t = ![t.val, 0])
theorem index0_6 : ∀ t : Fin cfg0.N, win0_6.index t = ![0, 0] := (by decide +kernel : ∀ t : Fin grid0.N, win0_6.index t = ![0, 0])

variable (V : (c : Dev nD) → (b : Ref sig .tc) → Buf (Elt Ideal) ((c : Thread nD τ).loc b)) (c : Dev nD)

/-- Row `a` of block `t`. -/
def brow (t : Fin 48) (a : Fin 256) : Fin 12288 := ⟨256 * t + a, by omega⟩

/-- The arrays the call reads. -/
def aX : Vec Ideal S12288x5120 .bf16 := V c main_v0
def aG : Vec Ideal S1x5120 .f32 := V c main_v2
def aW : Vec Ideal S5120x3840 .fp8e4m3 := V c main_arg2

def rowA (n : Fin 12288) (d : Fin 5120) : EReal := aX V c (ix2 n d)
def gamA (d : Fin 5120) : EReal := aG V c (ix2 0 d)
def colA (n : Fin 3840) (d : Fin 5120) : EReal := aW V c (ix2 d n)

theorem bX_at (t : Fin cfg0.N) (a : Fin 256) : rowB (bX V c t) a = rowA V c (brow t a) := by
  funext d
  unfold rowB rowA bX aX
  blk_simp [iblk0]
  congr 1
  blk_ext [index0_0]
  simp only [brow]; omega

theorem bG_at (t : Fin cfg0.N) : gamB (bG V c t) = gamA V c := by
  funext d
  unfold gamB gamA bG aG
  blk_simp [iblk0]
  congr 1
  blk_ext [index0_1]

theorem bW_at (t : Fin cfg0.N) (n : Fin 3840) : colB (bW V c t) n = colA V c n := by
  funext d
  unfold colB colA bW aW
  blk_simp [iblk0]
  congr 1
  blk_ext [index0_2]

/-- The arrays the call leaves: codes, scales, products. -/
def rCode : Vec Ideal S12288x5120 .fp8e4m3 := fun y => xcode (rowA V c (y 0)) (gamA V c) (y 1)
def rScale : Vec Ideal S12288x128 .f32 := fun y => xscale (rowA V c (y 0)) (gamA V c)
def rProd : Vec Ideal S12288x3840 .f32 := fun y => projS (rowA V c (y 0)) (gamA V c) (colA V c (y 1))

theorem arr3 : (dat0 V c).arrAt 3 cfg0.N = rCode V c := by
  refine (dat0 V c).arrAt_eq_of_covers 3 _ (by decide +kernel) fun t hf y => ?_
  obtain ⟨a, d, rfl⟩ : ∃ (a : Fin 256) (d : Fin 5120), y = (ix2 a d : S256x5120.Idx) := ⟨y 0, y 1, eq_ix2 _⟩
  have e : ((cfg0.win 3).blk t).view.emb (ix2 a d : S256x5120.Idx) = (ix2 (brow t a) d : S12288x5120.Idx) := by
    blk_ext [index0_3]
    simp only [brow]; omega
  rw [e]
  blk_simp
  rw [after0_3]
  refine (after3_at V c t a d).trans ?_
  rw [bX_at, bG_at]
  rfl

theorem arr4 : (dat0 V c).arrAt 4 cfg0.N = rScale V c := by
  refine (dat0 V c).arrAt_eq_of_covers 4 _ (by decide +kernel) fun t hf y => ?_
  obtain ⟨a, d, rfl⟩ : ∃ (a : Fin 256) (d : Fin 128), y = (ix2 a d : S256x128.Idx) := ⟨y 0, y 1, eq_ix2 _⟩
  have e : ((cfg0.win 4).blk t).view.emb (ix2 a d : S256x128.Idx) = (ix2 (brow t a) d : S12288x128.Idx) := by
    blk_ext [index0_4]
    simp only [brow]; omega
  rw [e]
  blk_simp
  rw [after0_4]
  refine (after4_at V c t a d).trans ?_
  rw [bX_at, bG_at]
  rfl

theorem arr5 : (dat0 V c).arrAt 5 cfg0.N = rProd V c := by
  refine (dat0 V c).arrAt_eq_of_covers 5 _ (by decide +kernel) fun t hf y => ?_
  obtain ⟨a, d, rfl⟩ : ∃ (a : Fin 256) (d : Fin 3840), y = (ix2 a d : S256x3840.Idx) := ⟨y 0, y 1, eq_ix2 _⟩
  have e : ((cfg0.win 5).blk t).view.emb (ix2 a d : S256x3840.Idx) = (ix2 (brow t a) d : S12288x3840.Idx) := by
    blk_ext [index0_5]
    simp only [brow]; omega
  rw [e]
  blk_simp
  rw [after0_5]
  refine (after5_at V c t a d).trans ?_
  rw [bX_at, bG_at, bW_at]
  rfl

/-- The column maxima after point `k`; the call leaves those after its last point. -/
def maxAt (k : ℕ) (hk : k < cfg0.N) : Vec Ideal S8x3840 .f32 := fun y => cmAt V c k hk (y 0) (y 1)
def rMax : Vec Ideal S8x3840 .f32 := maxAt V c 47 (by decide)

theorem maxAt_at (t : Fin cfg0.N) (k : ℕ) (hk : k < cfg0.N) (h : t.val = k) (a : Fin 8) (d : Fin 3840) :
    (outsAt0 V c t.val t.isLt).2.2.2 (ix2 a d) = maxAt V c k hk (ix2 a d) := by
  subst h
  rfl

theorem flush6 : ∀ t : Fin cfg0.N, win0_6.flush t = true → t.val = 47 :=
  (by decide +kernel : ∀ t : Fin grid0.N, win0_6.flush t = true → t.val = 47)

theorem arr6 : (dat0 V c).arrAt 6 cfg0.N = rMax V c := by
  refine (dat0 V c).arrAt_eq_of_covers 6 _ (by decide +kernel) fun t hf y => ?_
  obtain ⟨a, d, rfl⟩ : ∃ (a : Fin 8) (d : Fin 3840), y = (ix2 a d : S8x3840.Idx) := ⟨y 0, y 1, eq_ix2 _⟩
  have e : ((cfg0.win 6).blk t).view.emb (ix2 a d : S8x3840.Idx) = (ix2 a d : S8x3840.Idx) := by
    blk_ext [index0_6]
  rw [e]
  blk_simp
  rw [after0_6]
  exact maxAt_at V c t 47 (by decide) (flush6 t hf) a d

theorem rMax_le (a : Fin 8) (n : Fin 3840) (b : EReal) : cmAt V c 47 (by decide) a n ≤ b
    ↔ ∀ (t : Fin cfg0.N) (q : Fin 32), av (projS (rowA V c (brow t (rowAt q a))) (gamA V c) (colA V c n)) ≤ b := by
  refine (after6_le V c a n b 47 (by decide)).trans ⟨fun h t q => ?_, fun h t _ q => ?_⟩
  · have h2 := h t (Nat.le_of_lt_succ (show t.val < 48 from t.isLt)) q
    rwa [bX_at, bG_at, bW_at] at h2
  · rw [bX_at, bG_at, bW_at]
    exact h t q

/-- The largest column maximum over the eight places is that over all rows. -/
theorem rMax_sup (n : Fin 3840) : (⨆ a : Fin 8, cmAt V c 47 (by decide) a n) = ⨆ r : Fin 12288, av (projS (rowA V c r) (gamA V c) (colA V c n)) := by
  refine eq_of_forall_ge_iff fun b => ?_
  rw [iSup_le_iff, iSup_le_iff]
  simp only [rMax_le]
  refine ⟨fun h r => ?_, fun h a t q => h _⟩
  obtain ⟨q, a, hq⟩ := rowAt_surj ⟨r % 256, by omega⟩
  have h2 := h a ⟨r / 256, show r.val / 256 < 48 by omega⟩ q
  rw [hq] at h2
  have e : brow ⟨r / 256, show r.val / 256 < 48 by omega⟩ ⟨r % 256, by omega⟩ = r := Fin.ext (by simp only [brow]; omega)
  exact le_of_eq_of_le (congrArg (fun r => av (projS (rowA V c r) (gamA V c) (colA V c n))) e).symm h2

end Cert.Val
-- ==== Proof.Hand.Outs1.lean ====
/- What one step of the requantisation kernel leaves in its result blocks. -/
module

public import proofs.«01_k».proof.Proof.Hand.Blocks0

@[expose] public section

noncomputable section

namespace Cert.Val

open Cert.KernelIdeal Cert.KernelIdeal.Gen Cert.KernelIdeal.Hand Idealize.ShloMosaic Idealize.ShloMosaic.TcCoe

/-- Lane `j` of head `h`. -/
def hcol (h : Fin 30) (j : Fin 128) : Fin 3840 := ⟨128 * h + j, by omega⟩

theorem ld_ws (x : Vec Ideal S1x3840 .f32) (h : Fin 30) (j : Fin 128) : (View.ld x (wsR h) : Vec Ideal S1x128 .f32) (ix2 0 j) = x (ix2 0 (hcol h j)) :=
  congrArg x (emb2 0 j 0 (hcol h j) rfl rfl)
theorem ld_cm (x : Vec Ideal S8x3840 .f32) (h : Fin 30) (i : Fin 8) (j : Fin 128) : (View.ld x (cmR h) : Vec Ideal S8x128 .f32) (ix2 i j) = x (ix2 i (hcol h j)) :=
  congrArg x (emb2 i j i (hcol h j) (Nat.zero_add _).symm rfl)
theorem ld_y (x : Vec Ideal S512x3840 .f32) (h : Fin 30) (i : Fin 512) (j : Fin 128) : (View.ld x (yR h) : Vec Ideal S512x128 .f32) (ix2 i j) = x (ix2 i (hcol h j)) :=
  congrArg x (emb2 i j i (hcol h j) (Nat.zero_add _).symm rfl)

/-- The scaled maximum of head `h`, from the column maxima and the weight scales. -/
def headM (m : Fin 8 → Fin 3840 → EReal) (w : Fin 3840 → EReal) (h : Fin 30) : EReal :=
  headVS (fun i j => m i (hcol h j)) (fun j => w (hcol h j))

variable (x0 : Vec Ideal S512x3840 .f32) (x1 : Vec Ideal S8x3840 .f32) (x2 : Vec Ideal S1x3840 .f32)

theorem headM_ld (h : Fin 30) : headVS (fun i j => (View.ld x1 (cmR h) : Vec Ideal S8x128 .f32) (ix2 i j)) (fun j => (View.ld x2 (wsR h) : Vec Ideal S1x128 .f32) (ix2 0 j))
    = headM (fun i n => x1 (ix2 i n)) (fun n => x2 (ix2 0 n)) h :=
  congr (congrArg headVS (funext fun i => funext fun j => ld_cm x1 h i j)) (funext fun j => ld_ws x2 h j)

theorem code_at (h : Fin 30) (a b : Fin 1) (i : Fin 512) (j : Fin 128) :
    headCode (F := Ideal) (View.ld x2 (wsR h)) (View.ld x1 (cmR h)) (View.ld x0 (yR h)) (ix4 a b i j)
      = codeS (x0 (ix2 i (hcol h j)) * x2 (ix2 0 (hcol h j))) (invR (headM (fun i n => x1 (ix2 i n)) (fun n => x2 (ix2 0 n)) h)) := by
  refine (headCode_at _ _ _ a b i j).trans ?_
  exact congr (congrArg codeS (congr (congrArg HMul.hMul (ld_y x0 h i j)) (ld_ws x2 h j))) (congrArg invR (headM_ld x1 x2 h))

theorem scale_at (h : Fin 30) (j : Fin 128) :
    headScale (F := Ideal) (View.ld x2 (wsR h)) (View.ld x1 (cmR h)) (ix2 0 j) = scaleR (headM (fun i n => x1 (ix2 i n)) (fun n => x2 (ix2 0 n)) h) := by
  refine (headScale_at _ _ j).trans ?_
  exact congrArg scaleR (headM_ld x1 x2 h)

theorem oR_mem (h k : Fin 10) (i : Fin 512) (j : Fin 128) (e : h = k) : (ix4 0 h i j : S1x10x512x128.Idx) ∈ (oR k).set := by
  subst e
  refine Rect.mem_set_unit.mpr fun d => ?_
  fin_cases d
  · exact ⟨Nat.zero_le _, Nat.zero_lt_one⟩
  · exact ⟨le_refl _, Nat.lt_succ_self _⟩
  · exact ⟨Nat.zero_le _, lt_of_lt_of_eq i.isLt (Nat.zero_add _).symm⟩
  · exact ⟨Nat.zero_le _, lt_of_lt_of_eq j.isLt (Nat.zero_add _).symm⟩

theorem rectAt_oR (k h : Fin 10) (i : Fin 512) (j : Fin 128) (w : S1x1x512x128.Idx → Elt Ideal .fp8e4m3) (v : Elt Ideal .fp8e4m3)
    (H : k = h → w (ix4 0 0 i j) = v) : View.RectAt (Val := Elt Ideal) (ix4 0 h i j : S1x10x512x128.Idx) (oR k) w v := by
  intro x hx
  obtain ⟨a, b, p, q, rfl⟩ : ∃ (a : Fin 1) (b : Fin 1) (p : Fin 512) (q : Fin 128), x = (ix4 a b p q : S1x1x512x128.Idx) := ⟨x 0, x 1, x 2, x 3, eq_ix4 _⟩
  have h1 : (h : ℕ) = k + b := (congrArg (fun y : S1x10x512x128.Idx => (y 1 : ℕ)) hx).symm.trans (Rect.idx_unit_val _ _ _ _ 1)
  have h2 : (i : ℕ) = 0 + p := (congrArg (fun y : S1x10x512x128.Idx => (y 2 : ℕ)) hx).symm.trans (Rect.idx_unit_val _ _ _ _ 2)
  have h3 : (j : ℕ) = 0 + q := (congrArg (fun y : S1x10x512x128.Idx => (y 3 : ℕ)) hx).symm.trans (Rect.idx_unit_val _ _ _ _ 3)
  obtain rfl : p = i := Fin.ext (by omega)
  obtain rfl : q = j := Fin.ext (by omega)
  obtain rfl : a = 0 := Subsingleton.elim _ _
  obtain rfl : b = 0 := Subsingleton.elim _ _
  exact H (Fin.ext (by simpa using h1.symm))

/-- Head `h` of the ten of window `g`. -/
def headOf (g : Fin 3) (h : Fin 10) : Fin 30 := ⟨10 * g + h, by omega⟩

/-- The code a result block of the requantisation holds. -/
def blockCode (g : Fin 3) (h : Fin 10) (i : Fin 512) (j : Fin 128) : EReal :=
  codeS (x0 (ix2 i (hcol (headOf g h) j)) * x2 (ix2 0 (hcol (headOf g h) j))) (invR (headM (fun i n => x1 (ix2 i n)) (fun n => x2 (ix2 0 n)) (headOf g h)))

theorem codes_at (g : Fin 3) (H : Fin 10 → Fin 30) (hH : ∀ k : Fin 10, H k = headOf g ⟨9 - k, by omega⟩) (h : Fin 10) (i : Fin 512) (j : Fin 128) :
    View.canon (Val := Elt Ideal) (List.ofFn fun k : Fin 10 => (⟨oR ⟨9 - k, by omega⟩, headCode (View.ld x2 (wsR (H k))) (View.ld x1 (cmR (H k))) (View.ld x0 (yR (H k)))⟩
      : View.Piece (Elt Ideal) S1x10x512x128 .fp8e4m3)) (ix4 0 h i j : S1x10x512x128.Idx) = blockCode x0 x1 x2 g h i j := by
  refine canonFn (e := .fp8e4m3) (fun k : Fin 10 => oR ⟨9 - k, by omega⟩)
    (fun k => headCode (F := Ideal) (View.ld x2 (wsR (H k))) (View.ld x1 (cmR (H k))) (View.ld x0 (yR (H k)))) _ _ ⟨9 - h, by omega⟩ (oR_mem _ _ _ _ (Fin.ext (by simp only []; omega))) fun k => ?_
  refine rectAt_oR _ h i j _ _ fun e => ?_
  subst e
  rw [hH k]
  exact code_at x0 x1 x2 _ 0 0 i j

theorem out3_at (h : Fin 10) (i : Fin 512) (j : Fin 128) : out1_3 x0 x1 x2 (ix4 0 h i j) = blockCode x0 x1 x2 0 h i j := by
  rw [out1_3_list]
  exact codes_at x0 x1 x2 0 (fun k => ⟨9 - k, by omega⟩) (fun k => Fin.ext (by simp [headOf])) h i j
theorem out4_at (h : Fin 10) (i : Fin 512) (j : Fin 128) : out1_4 x0 x1 x2 (ix4 0 h i j) = blockCode x0 x1 x2 1 h i j := by
  rw [out1_4_list]
  exact codes_at x0 x1 x2 1 (fun k => ⟨19 - k, by omega⟩) (fun k => Fin.ext (by simp [headOf]; omega)) h i j
theorem out5_at (h : Fin 10) (i : Fin 512) (j : Fin 128) : out1_5 x0 x1 x2 (ix4 0 h i j) = blockCode x0 x1 x2 2 h i j := by
  rw [out1_5_list]
  exact codes_at x0 x1 x2 2 (fun k => ⟨29 - k, by omega⟩) (fun k => Fin.ext (by simp [headOf]; omega)) h i j

theorem out6_at (h : Fin 30) (j : Fin 128) : out1_6 x0 x1 x2 (ix2 h j) = scaleR (headM (fun i n => x1 (ix2 i n)) (fun n => x2 (ix2 0 n)) h) := by
  rw [out1_6_list]
  refine canonFn (e := .f32) (fun k : Fin 30 => sR ⟨29 - k, by omega⟩)
    (fun k => headScale (F := Ideal) (View.ld x2 (wsR ⟨29 - k, by omega⟩)) (View.ld x1 (cmR ⟨29 - k, by omega⟩))) _ _ ⟨29 - h, by omega⟩
    ((mem2 h j).mpr ⟨⟨by simp only []; omega, by simp only []; omega⟩, Nat.zero_le _, by omega⟩) fun k => ?_
  refine rectAt2 (e := .f32) _ h j _ fun a b h1 h2 => ?_
  obtain rfl : a = 0 := Subsingleton.elim _ _
  obtain rfl : b = j := Fin.ext (by omega)
  have e : (⟨29 - k, by omega⟩ : Fin 30) = h := Fin.ext (by simpa using h1.symm)
  rw [e]
  exact scale_at x1 x2 _ _

end Cert.Val
-- ==== Proof.Hand.Arrays1.lean ====
/- The arrays the requantisation call leaves. -/
module

public import proofs.«01_k».proof.Proof.Hand.Outs1
public import Idealize.ShloMosaic.Lib.Pipeline.ValueKit.Geometry
public import Idealize.ShloMosaic.Lib.Pipeline.ValueKit.Acc

@[expose] public section

noncomputable section

namespace Cert.Val

open Cert.KernelIdeal Cert.KernelIdeal.Gen Cert.KernelIdeal.Hand Idealize.ShloMosaic Idealize.ShloMosaic.TcCoe

theorem index1_0 : ∀ t : Fin cfg1.N, win1_0.index t = ![t.val, 0] := (by decide +kernel : ∀ t : Fin grid1.N, win1_0.index t = ![t.val, 0])
theorem index1_1 : ∀ t : Fin cfg1.N, win1_1.index t = ![0, 0] := (by decide +kernel : ∀ t : Fin grid1.N, win1_1.index t = ![0, 0])
theorem index1_2 : ∀ t : Fin cfg1.N, win1_2.index t = ![0, 0] := (by decide +kernel : ∀ t : Fin grid1.N, win1_2.index t = ![0, 0])
theorem index1_3 : ∀ t : Fin cfg1.N, win1_3.index t = ![t.val / 6, 0, t.val % 6, 0] := (by decide +kernel : ∀ t : Fin grid1.N, win1_3.index t = ![t.val / 6, 0, t.val % 6, 0])
theorem index1_4 : ∀ t : Fin cfg1.N, win1_4.index t = ![t.val / 6, 0, t.val % 6, 0] := (by decide +kernel : ∀ t : Fin grid1.N, win1_4.index t = ![t.val / 6, 0, t.val % 6, 0])
theorem index1_5 : ∀ t : Fin cfg1.N, win1_5.index t = ![t.val / 6, 0, t.val % 6, 0] := (by decide +kernel : ∀ t : Fin grid1.N, win1_5.index t = ![t.val / 6, 0, t.val % 6, 0])
theorem index1_6 : ∀ t : Fin cfg1.N, win1_6.index t = ![0, 0] := (by decide +kernel : ∀ t : Fin grid1.N, win1_6.index t = ![0, 0])

variable (V : (c : Dev nD) → (b : Ref sig .tc) → Buf (Elt Ideal) ((c : Thread nD τ).loc b)) (c : Dev nD)

/-- Row `a` of block `t`; batch, and row within the batch. -/
def drow (t : Fin 24) (a : Fin 512) : Fin 12288 := ⟨512 * t + a, by omega⟩
def dbat (t : Fin 24) : Fin 4 := ⟨t / 6, by omega⟩
def dsrow (t : Fin 24) (a : Fin 512) : Fin 3072 := ⟨512 * (t % 6) + a, by omega⟩
/-- Row of the flat array from batch and row. -/
def frow (b : Fin 4) (s : Fin 3072) : Fin 12288 := ⟨3072 * b + s, by omega⟩

theorem frow_block (t : Fin 24) (a : Fin 512) : frow (dbat t) (dsrow t a) = drow t a :=
  Fin.ext (by simp only [frow, dbat, dsrow, drow]; omega)

/-- The arrays the call reads. -/
def aY : Vec Ideal S12288x3840 .f32 := V c main_v3_2
def aM : Vec Ideal S8x3840 .f32 := V c main_v3_3
def aS : Vec Ideal S1x3840 .f32 := V c main_v4

def cY (t : Fin cfg1.N) : Vec Ideal S512x3840 .f32 := iblk1 V c 0 t
def cM (t : Fin cfg1.N) : Vec Ideal S8x3840 .f32 := iblk1 V c 1 t
def cS (t : Fin cfg1.N) : Vec Ideal S1x3840 .f32 := iblk1 V c 2 t

theorem cY_at (t : Fin cfg1.N) (a : Fin 512) (n : Fin 3840) : cY V c t (ix2 a n) = aY V c (ix2 (drow t a) n) := by
  unfold cY aY
  blk_simp [iblk1]
  congr 1
  blk_ext [index1_0]
  simp only [drow]; omega

theorem cM_at (t : Fin cfg1.N) (a : Fin 8) (n : Fin 3840) : cM V c t (ix2 a n) = aM V c (ix2 a n) := by
  unfold cM aM
  blk_simp [iblk1]
  congr 1
  blk_ext [index1_1]

theorem cS_at (t : Fin cfg1.N) (n : Fin 3840) : cS V c t (ix2 0 n) = aS V c (ix2 0 n) := by
  unfold cS aS
  blk_simp [iblk1]
  congr 1
  blk_ext [index1_2]

/-- The scaled maximum of head `h`. -/
def hMax (h : Fin 30) : EReal := headM (fun i n => aM V c (ix2 i n)) (fun n => aS V c (ix2 0 n)) h

/-- The arrays the call leaves: the codes of the three groups of heads, and the head scales. -/
def codeAt (g : Fin 3) (b : Fin 4) (h : Fin 10) (s : Fin 3072) (j : Fin 128) : EReal :=
  codeS (aY V c (ix2 (frow b s) (hcol (headOf g h) j)) * aS V c (ix2 0 (hcol (headOf g h) j))) (invR (hMax V c (headOf g h)))
def rHead (g : Fin 3) : Vec Ideal S4x10x3072x128 .fp8e4m3 := fun y => codeAt V c g (y 0) (y 1) (y 2) (y 3)
def rHScale : Vec Ideal S30x128 .f32 := fun y => scaleR (hMax V c (y 0))

theorem headM_c (t : Fin cfg1.N) (h : Fin 30) : headM (fun i n => cM V c t (ix2 i n)) (fun n => cS V c t (ix2 0 n)) h = hMax V c h :=
  congrArg (fun f => f h) (congr (congrArg headM (funext fun i => funext fun n => cM_at V c t i n)) (funext fun n => cS_at V c t n))

theorem block_at (t : Fin cfg1.N) (g : Fin 3) (h : Fin 10) (i : Fin 512) (j : Fin 128) :
    blockCode (cY V c t) (cM V c t) (cS V c t) g h i j = codeAt V c g (dbat t) h (dsrow t i) j := by
  unfold blockCode codeAt
  have e : cY V c t (ix2 i (hcol (headOf g h) j)) = aY V c (ix2 (frow (dbat t) (dsrow t i)) (hcol (headOf g h) j)) :=
    (cY_at V c t i _).trans (congrArg (fun r => aY V c (ix2 r (hcol (headOf g h) j))) (frow_block t i).symm)
  exact congr (congrArg codeS (congr (congrArg HMul.hMul e) (cS_at V c t _))) (congrArg invR (headM_c V c t _))

theorem arrH3 : (dat1 V c).arrAt 3 cfg1.N = rHead V c 0 := by
  refine (dat1 V c).arrAt_eq_of_covers 3 _ (by decide +kernel) fun t hf y => ?_
  obtain ⟨z, h, i, j, rfl⟩ : ∃ (z : Fin 1) (h : Fin 10) (i : Fin 512) (j : Fin 128), y = (ix4 z h i j : S1x10x512x128.Idx) := ⟨y 0, y 1, y 2, y 3, eq_ix4 _⟩
  obtain rfl : z = 0 := Subsingleton.elim _ _
  have e : ((cfg1.win 3).blk t).view.emb (ix4 0 h i j : S1x10x512x128.Idx) = (ix4 (dbat t) h (dsrow t i) j : S4x10x3072x128.Idx) := by
    blk_ext [index1_3]
    all_goals simp only [dbat, dsrow]; omega
  rw [e]
  blk_simp
  rw [after1_3]
  refine (out3_at (cY V c t) (cM V c t) (cS V c t) h i j).trans ?_
  rw [block_at]
  rfl

theorem arrH4 : (dat1 V c).arrAt 4 cfg1.N = rHead V c 1 := by
  refine (dat1 V c).arrAt_eq_of_covers 4 _ (by decide +kernel) fun t hf y => ?_
  obtain ⟨z, h, i, j, rfl⟩ : ∃ (z : Fin 1) (h : Fin 10) (i : Fin 512) (j : Fin 128), y = (ix4 z h i j : S1x10x512x128.Idx) := ⟨y 0, y 1, y 2, y 3, eq_ix4 _⟩
  obtain rfl : z = 0 := Subsingleton.elim _ _
  have e : ((cfg1.win 4).blk t).view.emb (ix4 0 h i j : S1x10x512x128.Idx) = (ix4 (dbat t) h (dsrow t i) j : S4x10x3072x128.Idx) := by
    blk_ext [index1_4]
    all_goals simp only [dbat, dsrow]; omega
  rw [e]
  blk_simp
  rw [after1_4]
  refine (out4_at (cY V c t) (cM V c t) (cS V c t) h i j).trans ?_
  rw [block_at]
  rfl

theorem arrH5 : (dat1 V c).arrAt 5 cfg1.N = rHead V c 2 := by
  refine (dat1 V c).arrAt_eq_of_covers 5 _ (by decide +kernel) fun t hf y => ?_
  obtain ⟨z, h, i, j, rfl⟩ : ∃ (z : Fin 1) (h : Fin 10) (i : Fin 512) (j : Fin 128), y = (ix4 z h i j : S1x10x512x128.Idx) := ⟨y 0, y 1, y 2, y 3, eq_ix4 _⟩
  obtain rfl : z = 0 := Subsingleton.elim _ _
  have e : ((cfg1.win 5).blk t).view.emb (ix4 0 h i j : S1x10x512x128.Idx) = (ix4 (dbat t) h (dsrow t i) j : S4x10x3072x128.Idx) := by
    blk_ext [index1_5]
    all_goals simp only [dbat, dsrow]; omega
  rw [e]
  blk_simp
  rw [after1_5]
  refine (out5_at (cY V c t) (cM V c t) (cS V c t) h i j).trans ?_
  rw [block_at]
  rfl

theorem arrH6 : (dat1 V c).arrAt 6 cfg1.N = rHScale V c := by
  refine (dat1 V c).arrAt_eq_of_covers 6 _ (by decide +kernel) fun t hf y => ?_
  obtain ⟨h, j, rfl⟩ : ∃ (h : Fin 30) (j : Fin 128), y = (ix2 h j : S30x128.Idx) := ⟨y 0, y 1, eq_ix2 _⟩
  have e : ((cfg1.win 6).blk t).view.emb (ix2 h j : S30x128.Idx) = (ix2 h j : S30x128.Idx) := by
    blk_ext [index1_6]
  rw [e]
  blk_simp
  rw [after1_6]
  refine (out6_at (cY V c t) (cM V c t) (cS V c t) h j).trans ?_
  rw [headM_c]
  rfl

end Cert.Val
-- ==== Proof.Hand.HostVals.lean ====
/- The host operations around the two calls: what enters each call, and what each result is read from. -/
module

public import proofs.«01_k».proof.Proof.Hand.Arrays0
public import proofs.«01_k».proof.Proof.Hand.Arrays1
public import Idealize.ShloMosaic.Lib.StableHlo.RunRead

@[expose] public section

noncomputable section

namespace Cert.Val

open Cert.KernelIdeal Cert.KernelIdeal.Gen Cert.KernelIdeal.Hand Idealize.ShloMosaic Idealize.ShloMosaic.TcCoe

variable (m : (ℓ : Loc nD τ sig) → Buf (Elt Ideal) ℓ) (ρ : Dev nD → PrngReg) (c : Dev nD)

/-- The argument arrays. -/
def g0 : Vec Ideal S4x3072x5120 .bf16 := m ((c : Thread nD τ).loc main_arg0)
def g1 : Vec Ideal S5120 .bf16 := m ((c : Thread nD τ).loc main_arg1)
def g2 : Vec Ideal S5120x3840 .fp8e4m3 := m ((c : Thread nD τ).loc main_arg2)
def g3 : Vec Ideal S3840 .f32 := m ((c : Thread nD τ).loc main_arg3)

/-- The weight of the norm, widened. -/
def gExt : Vec Ideal S5120 .f32 := extf (F := Ideal) (s := S5120) .f32 (g1 m c) bitsLt_bf16_f32

theorem in0_x : V1 m ρ c main_v0 = (shapeCast S12288x5120 (g0 m c) shapeCasts_S4x3072x5120_S12288x5120 : Vec Ideal S12288x5120 .bf16) := by
  show StableHlo.after hostOps0 (W0 m ρ c) (Proc.devRef .tc main_v0) = _
  after_reads_simp
  rfl
theorem in0_g : V1 m ρ c main_v2 = (shapeCast S1x5120 (gExt m c) shapeCasts_S5120_S1x5120 : Vec Ideal S1x5120 .f32) := by
  show StableHlo.after hostOps0 (W0 m ρ c) (Proc.devRef .tc main_v2) = _
  after_reads_simp
  rfl
theorem in0_w : V1 m ρ c main_arg2 = g2 m c := W1_args m ρ c main_arg2 (by decide)
theorem in1_s : V3 m ρ c main_v4 = (shapeCast S1x3840 (g3 m c) shapeCasts_S3840_S1x3840 : Vec Ideal S1x3840 .f32) := by
  show StableHlo.after hostOps1 (W2 m ρ c) (Proc.devRef .tc main_v4) = _
  after_reads_simp
  rw [W2_args m ρ c main_arg3 (by decide)]
  rfl
theorem in1_y : V3 m ρ c main_v3_2 = rProd (V1 m ρ) c :=
  (W3_of m ρ c main_v3_2 (by decide)).trans ((W2_arr m ρ c 5).trans (arr5 (V1 m ρ) c))
theorem in1_m : V3 m ρ c main_v3_3 = rMax (V1 m ρ) c :=
  (W3_of m ρ c main_v3_3 (by decide)).trans ((W2_arr m ρ c 6).trans (arr6 (V1 m ρ) c))

theorem out_c : W4 m ρ c (Proc.devRef .tc main_v3_0) = rCode (V1 m ρ) c :=
  (W4_of_ne m ρ c main_v3_0 (by decide)).trans ((W3_of m ρ c main_v3_0 (by decide)).trans ((W2_arr m ρ c 3).trans (arr3 (V1 m ρ) c)))
theorem out_s : W4 m ρ c (Proc.devRef .tc main_v3_1) = rScale (V1 m ρ) c :=
  (W4_of_ne m ρ c main_v3_1 (by decide)).trans ((W3_of m ρ c main_v3_1 (by decide)).trans ((W2_arr m ρ c 4).trans (arr4 (V1 m ρ) c)))
theorem out_h0 : W4 m ρ c (Proc.devRef .tc main_v5_0) = rHead (V3 m ρ) c 0 := (W4_arr m ρ c 3).trans (arrH3 (V3 m ρ) c)
theorem out_h1 : W4 m ρ c (Proc.devRef .tc main_v5_1) = rHead (V3 m ρ) c 1 := (W4_arr m ρ c 4).trans (arrH4 (V3 m ρ) c)
theorem out_h2 : W4 m ρ c (Proc.devRef .tc main_v5_2) = rHead (V3 m ρ) c 2 := (W4_arr m ρ c 5).trans (arrH5 (V3 m ρ) c)
theorem out_hs : W4 m ρ c (Proc.devRef .tc main_v5_3) = rHScale (V3 m ρ) c := (W4_arr m ρ c 6).trans (arrH6 (V3 m ρ) c)

theorem res_8 : W5 m ρ c (Proc.devRef .tc main_v8) = (transpose S4x3072x10x128 [0, 2, 1, 3] (rHead (V3 m ρ) c 0) transposes_S4x10x3072x128_S4x3072x10x128_0_2_1_3 : Vec Ideal S4x3072x10x128 .fp8e4m3) := by
  show StableHlo.after hostOps2 (W4 m ρ c) (Proc.devRef .tc main_v8) = _
  after_reads_simp
  rw [out_h0]
theorem res_10 : W5 m ρ c (Proc.devRef .tc main_v10) = (transpose S4x3072x10x128 [0, 2, 1, 3] (rHead (V3 m ρ) c 1) transposes_S4x10x3072x128_S4x3072x10x128_0_2_1_3 : Vec Ideal S4x3072x10x128 .fp8e4m3) := by
  show StableHlo.after hostOps2 (W4 m ρ c) (Proc.devRef .tc main_v10) = _
  after_reads_simp
  rw [out_h1]
theorem res_12 : W5 m ρ c (Proc.devRef .tc main_v12) = (transpose S4x3072x10x128 [0, 2, 1, 3] (rHead (V3 m ρ) c 2) transposes_S4x10x3072x128_S4x3072x10x128_0_2_1_3 : Vec Ideal S4x3072x10x128 .fp8e4m3) := by
  show StableHlo.after hostOps2 (W4 m ρ c) (Proc.devRef .tc main_v12) = _
  after_reads_simp
  rw [out_h2]

/-- The head scales as the host cuts them out. -/
def sCut : Vec Ideal S30 .f32 := shapeCast S30 (extractStridedSlice S30x1 ![0, 0] (rHScale (V3 m ρ) c) slices_S30x128_S30x1_0_0) shapeCasts_S30x1_S30

theorem res_9 : W5 m ρ c (Proc.devRef .tc main_v9) = (extractStridedSlice S10 ![0] (sCut m ρ c) slices_S30_S10_0 : Vec Ideal S10 .f32) := by
  show StableHlo.after hostOps2 (W4 m ρ c) (Proc.devRef .tc main_v9) = _
  after_reads_simp
  rw [out_hs]
  rfl
theorem res_11 : W5 m ρ c (Proc.devRef .tc main_v11) = (extractStridedSlice S10 ![10] (sCut m ρ c) slices_S30_S10_10 : Vec Ideal S10 .f32) := by
  show StableHlo.after hostOps2 (W4 m ρ c) (Proc.devRef .tc main_v11) = _
  after_reads_simp
  rw [out_hs]
  rfl
theorem res_13 : W5 m ρ c (Proc.devRef .tc main_v13) = (extractStridedSlice S10 ![20] (sCut m ρ c) slices_S30_S10_20 : Vec Ideal S10 .f32) := by
  show StableHlo.after hostOps2 (W4 m ρ c) (Proc.devRef .tc main_v13) = _
  after_reads_simp
  rw [out_hs]
  rfl
theorem res_14 : W5 m ρ c (Proc.devRef .tc main_v14) = (shapeCast S4x3072x5120 (rCode (V1 m ρ) c) shapeCasts_S12288x5120_S4x3072x5120 : Vec Ideal S4x3072x5120 .fp8e4m3) := by
  show StableHlo.after hostOps2 (W4 m ρ c) (Proc.devRef .tc main_v14) = _
  after_reads_simp
  rw [out_c]
  rfl
theorem res_17 : W5 m ρ c (Proc.devRef .tc main_v17) = (shapeCast S4x3072 (shapeCast S12288 (extractStridedSlice S12288x1 ![0, 0] (rScale (V1 m ρ) c) slices_S12288x128_S12288x1_0_0)
    shapeCasts_S12288x1_S12288) shapeCasts_S12288_S4x3072 : Vec Ideal S4x3072 .f32) := by
  show StableHlo.after hostOps2 (W4 m ρ c) (Proc.devRef .tc main_v17) = _
  after_reads_simp
  rw [out_s]
  rfl

end Cert.Val
-- ==== Proof.Hand.Result.lean ====
/- The results of the kernel program as functions of its arguments. -/
module

public import proofs.«01_k».proof.Proof.Hand.HostVals
public import Idealize.ShloMosaic.Lib.Pointwise

@[expose] public section

noncomputable section

namespace Cert.Val

open Cert.KernelIdeal Cert.KernelIdeal.Gen Cert.KernelIdeal.Hand Idealize.ShloMosaic Idealize.ShloMosaic.TcCoe

section Spec
variable (a0 : Vec Ideal S4x3072x5120 .bf16) (a1 : Vec Ideal S5120 .bf16) (a2 : Vec Ideal S5120x3840 .fp8e4m3) (a3 : Vec Ideal S3840 .f32)

def xRow (b : Fin 4) (s : Fin 3072) (d : Fin 5120) : EReal := a0 (ix3 b s d)
def gRow (d : Fin 5120) : EReal := a1 (ix1 d)
def wCol (n : Fin 3840) (d : Fin 5120) : EReal := a2 (ix2 d n)

/-- An entry of the scaled projection. -/
def projW (b : Fin 4) (s : Fin 3072) (n : Fin 3840) : EReal := projS (xRow a0 b s) (gRow a1) (wCol a2 n) * a3 (ix1 n)

/-- The scaled maximum of head `h`. -/
def topS (h : Fin 30) : EReal := (⨆ j : Fin 128, ⨆ b : Fin 4, ⨆ s : Fin 3072, av (projW a0 a1 a2 a3 b s (hcol h j))) * c448

/-- The eight results at an index. -/
def resCode (g : Fin 3) (b : Fin 4) (s : Fin 3072) (h : Fin 10) (j : Fin 128) : EReal :=
  codeS (projW a0 a1 a2 a3 b s (hcol (headOf g h) j)) (invR (topS a0 a1 a2 a3 (headOf g h)))
def resScale (g : Fin 3) (h : Fin 10) : EReal := scaleR (topS a0 a1 a2 a3 (headOf g h))
def resX (b : Fin 4) (s : Fin 3072) (d : Fin 5120) : EReal := xcode (xRow a0 b s) (gRow a1) d
def resXS (b : Fin 4) (s : Fin 3072) : EReal := xscale (xRow a0 b s) (gRow a1)
end Spec

variable (m : (ℓ : Loc nD τ sig) → Buf (Elt Ideal) ℓ) (ρ : Dev nD → PrngReg) (c : Dev nD)

theorem frow_surj (r : Fin 12288) : ∃ b s, frow b s = r := ⟨⟨r / 3072, by omega⟩, ⟨r % 3072, by omega⟩, Fin.ext (by simp only [frow]; omega)⟩

theorem row_eq (b : Fin 4) (s : Fin 3072) : rowA (V1 m ρ) c (frow b s) = xRow (g0 m c) b s := by
  funext d
  unfold rowA xRow aX
  rw [in0_x]
  unfold frow
  pointwise
theorem gam_eq : gamA (V1 m ρ) c = gRow (g1 m c) := by
  funext d
  unfold gamA gRow aG
  rw [in0_g]
  pointwise [gExt]
theorem col_eq (n : Fin 3840) : colA (V1 m ρ) c n = wCol (g2 m c) n := by
  funext d
  unfold colA wCol aW
  rw [in0_w]
theorem sc_eq (n : Fin 3840) : aS (V3 m ρ) c (ix2 0 n) = g3 m c (ix1 n) := by
  unfold aS
  rw [in1_s]
  pointwise

theorem prod_eq (b : Fin 4) (s : Fin 3072) (n : Fin 3840) : aY (V3 m ρ) c (ix2 (frow b s) n) * aS (V3 m ρ) c (ix2 0 n) = projW (g0 m c) (g1 m c) (g2 m c) (g3 m c) b s n := by
  rw [sc_eq]
  have e : aY (V3 m ρ) c (ix2 (frow b s) n) = projS (xRow (g0 m c) b s) (gRow (g1 m c)) (wCol (g2 m c) n) := by
    unfold aY
    rw [in1_y, ← row_eq m ρ, ← gam_eq m ρ, ← col_eq m ρ]
    rfl
  rw [e]
  rfl

theorem top_eq (h : Fin 30) : hMax (V3 m ρ) c h = topS (g0 m c) (g1 m c) (g2 m c) (g3 m c) h := by
  unfold hMax headM headVS topS
  congr 1
  refine iSup_congr fun j => ?_
  have e : (⨆ i : Fin 8, aM (V3 m ρ) c (ix2 i (hcol h j))) = ⨆ r : Fin 12288, av (projS (rowA (V1 m ρ) c r) (gamA (V1 m ρ) c) (colA (V1 m ρ) c (hcol h j))) := by
    rw [← rMax_sup (V1 m ρ) c (hcol h j)]
    refine iSup_congr fun i => ?_
    unfold aM
    rw [in1_m]
    rfl
  rw [e, iSup_mul _ (av_nonneg _)]
  dsimp only
  rw [sc_eq]
  refine eq_of_forall_ge_iff fun b => ?_
  simp only [iSup_le_iff]
  have k : ∀ b s, av (projS (rowA (V1 m ρ) c (frow b s)) (gamA (V1 m ρ) c) (colA (V1 m ρ) c (hcol h j))) * av (g3 m c (ix1 (hcol h j)))
      = av (projW (g0 m c) (g1 m c) (g2 m c) (g3 m c) b s (hcol h j)) := fun b s => by
    rw [row_eq, gam_eq, col_eq, ← av_mul]
    rfl
  refine ⟨fun H b s => (k b s) ▸ H (frow b s), fun H r => ?_⟩
  obtain ⟨b, s, rfl⟩ := frow_surj r
  rw [k]
  exact H b s

theorem code_eq (g : Fin 3) (b : Fin 4) (s : Fin 3072) (h : Fin 10) (j : Fin 128) :
    codeAt (V3 m ρ) c g b h s j = resCode (g0 m c) (g1 m c) (g2 m c) (g3 m c) g b s h j := by
  unfold codeAt resCode
  rw [prod_eq, top_eq]

theorem kres_8 (b : Fin 4) (s : Fin 3072) (h : Fin 10) (j : Fin 128) :
    (W5 m ρ c (Proc.devRef .tc main_v8) : Vec Ideal S4x3072x10x128 .fp8e4m3) (ix4 b s h j) = resCode (g0 m c) (g1 m c) (g2 m c) (g3 m c) 0 b s h j := by
  rw [res_8, ← code_eq m ρ]
  pointwise
  rfl
theorem kres_10 (b : Fin 4) (s : Fin 3072) (h : Fin 10) (j : Fin 128) :
    (W5 m ρ c (Proc.devRef .tc main_v10) : Vec Ideal S4x3072x10x128 .fp8e4m3) (ix4 b s h j) = resCode (g0 m c) (g1 m c) (g2 m c) (g3 m c) 1 b s h j := by
  rw [res_10, ← code_eq m ρ]
  pointwise
  rfl
theorem kres_12 (b : Fin 4) (s : Fin 3072) (h : Fin 10) (j : Fin 128) :
    (W5 m ρ c (Proc.devRef .tc main_v12) : Vec Ideal S4x3072x10x128 .fp8e4m3) (ix4 b s h j) = resCode (g0 m c) (g1 m c) (g2 m c) (g3 m c) 2 b s h j := by
  rw [res_12, ← code_eq m ρ]
  pointwise
  rfl

theorem sCut_at (h : Fin 30) : sCut m ρ c (ix1 h) = scaleR (topS (g0 m c) (g1 m c) (g2 m c) (g3 m c) h) := by
  rw [← top_eq m ρ]
  pointwise [sCut]
  rfl
theorem kres_9 (h : Fin 10) : (W5 m ρ c (Proc.devRef .tc main_v9) : Vec Ideal S10 .f32) (ix1 h) = resScale (g0 m c) (g1 m c) (g2 m c) (g3 m c) 0 h := by
  unfold resScale
  rw [res_9, ← sCut_at m ρ]
  pointwise
  congr 2
  exact Fin.ext (by simp [headOf])
theorem kres_11 (h : Fin 10) : (W5 m ρ c (Proc.devRef .tc main_v11) : Vec Ideal S10 .f32) (ix1 h) = resScale (g0 m c) (g1 m c) (g2 m c) (g3 m c) 1 h := by
  unfold resScale
  rw [res_11, ← sCut_at m ρ]
  pointwise
  congr 2
theorem kres_13 (h : Fin 10) : (W5 m ρ c (Proc.devRef .tc main_v13) : Vec Ideal S10 .f32) (ix1 h) = resScale (g0 m c) (g1 m c) (g2 m c) (g3 m c) 2 h := by
  unfold resScale
  rw [res_13, ← sCut_at m ρ]
  pointwise
  congr 2

theorem kres_14 (b : Fin 4) (s : Fin 3072) (d : Fin 5120) :
    (W5 m ρ c (Proc.devRef .tc main_v14) : Vec Ideal S4x3072x5120 .fp8e4m3) (ix3 b s d) = resX (g0 m c) (g1 m c) b s d := by
  unfold resX
  rw [res_14, ← row_eq m ρ, ← gam_eq m ρ]
  pointwise
  have k : (⟨b * 3072 + s, by omega⟩ : Fin 12288) = frow b s := Fin.ext (by simp only [frow]; omega)
  exact congrArg (fun r => xcode (rowA (V1 m ρ) c r) (gamA (V1 m ρ) c) d) k
theorem kres_17 (b : Fin 4) (s : Fin 3072) :
    (W5 m ρ c (Proc.devRef .tc main_v17) : Vec Ideal S4x3072 .f32) (ix2 b s) = resXS (g0 m c) (g1 m c) b s := by
  unfold resXS
  rw [res_17, ← row_eq m ρ, ← gam_eq m ρ]
  pointwise
  have k : (⟨b * 3072 + s, by omega⟩ : Fin 12288) = frow b s := Fin.ext (by simp only [frow]; omega)
  exact congrArg (fun r => xscale (rowA (V1 m ρ) c r) (gamA (V1 m ρ) c)) k

end Cert.Val
-- ==== Proof.Hand.RefRun.lean ====
/- The reference's run: it has one grid point and each window's block is its whole array, so each result array after
   the run is the body's stored value at the argument arrays. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_4) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_5) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_6) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_7) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x3072x5120.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 3072 + 1 * (j 1).val = (j 1).val; omega
  | ⟨2, _⟩ => show win0_0.index t (2 : Fin 3) * 5120 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S5120.Idx) : ((cfg0.win 1).blk t).view.emb j = j := by
  have e0 := idx_zero1 t
  funext a; apply Fin.ext
  match a with
  | ⟨0, _⟩ => show win0_1.index t (0 : Fin 1) * 5120 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S5120x3840.Idx) : ((cfg0.win 2).blk t).view.emb j = j := by
  obtain ⟨e0, e1⟩ := idx_zero2 t
  funext a; apply Fin.ext
  match a with
  | ⟨0, _⟩ => show win0_2.index t (0 : Fin 2) * 5120 + 1 * (j 0).val = (j 0).val; omega
  | ⟨1, _⟩ => show win0_2.index t (1 : Fin 2) * 3840 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S3840.Idx) : ((cfg0.win 3).blk t).view.emb j = j := by
  have e0 := idx_zero3 t
  funext a; apply Fin.ext
  match a with
  | ⟨0, _⟩ => show win0_3.index t (0 : Fin 1) * 3840 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0, 0] : Fin 4 → Nat) = fun _ => 0 := funext fun a => by fin_cases a <;> rfl

/-- Window 4's block index at the one point is zero on every axis. -/
theorem idx_zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

/-- An index of window 4's block is the same index of its array. -/
theorem emb4 (t : Fin cfg0.N) (j : S4x3072x10x128.Idx) : ((cfg0.win 4).blk t).view.emb j = j := by
  obtain ⟨e0, e1, e2, e3⟩ := idx_zero4 t
  funext a; apply Fin.ext
  match a with
  | ⟨0, _⟩ => show win0_4.index t (0 : Fin 4) * 4 + 1 * (j 0).val = (j 0).val; omega
  | ⟨1, _⟩ => show win0_4.index t (1 : Fin 4) * 3072 + 1 * (j 1).val = (j 1).val; omega
  | ⟨2, _⟩ => show win0_4.index t (2 : Fin 4) * 10 + 1 * (j 2).val = (j 2).val; omega
  | ⟨3, _⟩ => show win0_4.index t (3 : Fin 4) * 128 + 1 * (j 3).val = (j 3).val; omega

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S10.Idx) : ((cfg0.win 5).blk t).view.emb j = j := by
  have e0 := idx_zero5 t
  funext a; apply Fin.ext
  match a with
  | ⟨0, _⟩ => show win0_5.index t (0 : Fin 1) * 10 + 1 * (j 0).val = (j 0).val; omega

theorem hz6 : (![0, 0, 0, 0] : Fin 4 → Nat) = fun _ => 0 := funext fun a => by fin_cases a <;> rfl

/-- Window 6's block index at the one point is zero on every axis. -/
theorem idx_zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- An index of window 6's block is the same index of its array. -/
theorem emb6 (t : Fin cfg0.N) (j : S4x3072x10x128.Idx) : ((cfg0.win 6).blk t).view.emb j = j := by
  obtain ⟨e0, e1, e2, e3⟩ := idx_zero6 t
  funext a; apply Fin.ext
  match a with
  | ⟨0, _⟩ => show win0_6.index t (0 : Fin 4) * 4 + 1 * (j 0).val = (j 0).val; omega
  | ⟨1, _⟩ => show win0_6.index t (1 : Fin 4) * 3072 + 1 * (j 1).val = (j 1).val; omega
  | ⟨2, _⟩ => show win0_6.index t (2 : Fin 4) * 10 + 1 * (j 2).val = (j 2).val; omega
  | ⟨3, _⟩ => show win0_6.index t (3 : Fin 4) * 128 + 1 * (j 3).val = (j 3).val; omega

theorem hz7 : (![0] : Fin 1 → Nat) = fun _ => 0 := funext fun a => by fin_cases a <;> rfl

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S10.Idx) : ((cfg0.win 7).blk t).view.emb j = j := by
  have e0 := idx_zero7 t
  funext a; apply Fin.ext
  match a with
  | ⟨0, _⟩ => show win0_7.index t (0 : Fin 1) * 10 + 1 * (j 0).val = (j 0).val; omega

theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S4x3072x10x128.Idx) : ((cfg0.win 8).blk t).view.emb j = j := by
  obtain ⟨e0, e1, e2, e3⟩ := idx_zero8 t
  funext a; apply Fin.ext
  match a with
  | ⟨0, _⟩ => show win0_8.index t (0 : Fin 4) * 4 + 1 * (j 0).val = (j 0).val; omega
  | ⟨1, _⟩ => show win0_8.index t (1 : Fin 4) * 3072 + 1 * (j 1).val = (j 1).val; omega
  | ⟨2, _⟩ => show win0_8.index t (2 : Fin 4) * 10 + 1 * (j 2).val = (j 2).val; omega
  | ⟨3, _⟩ => show win0_8.index t (3 : Fin 4) * 128 + 1 * (j 3).val = (j 3).val; omega

theorem hz9 : (![0] : Fin 1 → Nat) = fun _ => 0 := funext fun a => by fin_cases a <;> rfl

/-- Window 9's block index at the one point is zero on every axis. -/
theorem idx_zero9 : ∀ t : Fin cfg0.N, win0_9.index t (0 : Fin 1) = 0 :=
  (by decide +kernel : ∀ t : Fin grid0.N, _)

/-- An index of window 9's block is the same index of its array. -/
theorem emb9 (t : Fin cfg0.N) (j : S10.Idx) : ((cfg0.win 9).blk t).view.emb j = j := by
  have e0 := idx_zero9 t
  funext a; apply Fin.ext
  match a with
  | ⟨0, _⟩ => show win0_9.index t (0 : Fin 1) * 10 + 1 * (j 0).val = (j 0).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S4x3072x5120.Idx) : ((cfg0.win 10).blk t).view.emb j = j := by
  obtain ⟨e0, e1, e2⟩ := idx_zero10 t
  funext a; apply Fin.ext
  match a with
  | ⟨0, _⟩ => show win0_10.index t (0 : Fin 3) * 4 + 1 * (j 0).val = (j 0).val; omega
  | ⟨1, _⟩ => show win0_10.index t (1 : Fin 3) * 3072 + 1 * (j 1).val = (j 1).val; omega
  | ⟨2, _⟩ => show win0_10.index t (2 : Fin 3) * 5120 + 1 * (j 2).val = (j 2).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S4x3072.Idx) : ((cfg0.win 11).blk t).view.emb j = j := by
  obtain ⟨e0, e1⟩ := idx_zero11 t
  funext a; apply Fin.ext
  match a with
  | ⟨0, _⟩ => show win0_11.index t (0 : Fin 2) * 4 + 1 * (j 0).val = (j 0).val; omega
  | ⟨1, _⟩ => show win0_11.index t (1 : Fin 2) * 3072 + 1 * (j 1).val = (j 1).val; omega

/-! ### Output window 4: the array after the run -/

/-- What the window's array ends holding: `out0_4` applied to the argument arrays in place of the input blocks (a value that the
    frame states apart, `kK_payN a…`, keeps its loads inside its own definition). -/
abbrev G4 (a0 : Vec F S4x3072x5120 .bf16) (a1 : Vec F S5120 .bf16) (a2 : Vec F S5120x3840 .fp8e4m3) (a3 : Vec F S3840 .f32) : Vec F S4x3072x10x128 .fp8e4m3 :=
  k0_pay14 (k0_pay13 (k0_pay24 a0 a1 a2 a3) (k0_pay25 a0 a1 a2 a3) (k0_pay26 a0 a1 a2 a3) (View.ld a2 r0_3) (View.ld a3 r0_4)) (Scalar.ofBits .f32 0xC3E00000#32) (Scalar.ofBits .f32 0x43E00000#32)

/-- The one store through the whole rectangle leaves its payload. -/
theorem out4_eq (a0 : Vec F S4x3072x5120 .bf16) (a1 : Vec F S5120 .bf16) (a2 : Vec F S5120x3840 .fp8e4m3) (a3 : Vec F S3840 .f32) : out0_4 (F := F) a0 a1 a2 a3 = G4 a0 a1 a2 a3 := by
  unfold out0_4
  rw [View.canon_unit_zero hz4]

/-- Cutting the point's block out of `X` and reading `X` through the block's view give the same. -/
theorem cut4_eq (t : Fin cfg0.N) (X : Vec F S4x3072x10x128 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S4x3072x10x128.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S4x3072x5120 .bf16) (a1 : Vec F S5120 .bf16) (a2 : Vec F S5120x3840 .fp8e4m3) (a3 : Vec F S3840 .f32) : Vec F S10 .f32 :=
  k0_pay15 (k0_pay12 (k0_pay24 a0 a1 a2 a3) (k0_pay25 a0 a1 a2 a3) (k0_pay26 a0 a1 a2 a3) (View.ld a2 r0_3) (View.ld a3 r0_4))

/-- The one store through the whole rectangle leaves its payload. -/
theorem out5_eq (a0 : Vec F S4x3072x5120 .bf16) (a1 : Vec F S5120 .bf16) (a2 : Vec F S5120x3840 .fp8e4m3) (a3 : Vec F S3840 .f32) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S10 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S10.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S4x3072x5120 .bf16) (a1 : Vec F S5120 .bf16) (a2 : Vec F S5120x3840 .fp8e4m3) (a3 : Vec F S3840 .f32) : Vec F S4x3072x10x128 .fp8e4m3 :=
  k0_pay19 (k0_pay18 (k0_pay27 a0 a1 a2 a3) (k0_pay28 a0 a1 a2 a3) (View.ld a2 r0_7) (View.ld a3 r0_8)) (Scalar.ofBits .f32 0xC3E00000#32)

/-- The one store through the whole rectangle leaves its payload. -/
theorem out6_eq (a0 : Vec F S4x3072x5120 .bf16) (a1 : Vec F S5120 .bf16) (a2 : Vec F S5120x3840 .fp8e4m3) (a3 : Vec F S3840 .f32) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S4x3072x10x128 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S4x3072x10x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ### Output window 7: the array after the run -/

/-- What the window's array ends holding: `out0_7` applied to the argument arrays in place of the input blocks (a value that the
    frame states apart, `kK_payN a…`, keeps its loads inside its own definition). -/
abbrev G7 (a0 : Vec F S4x3072x5120 .bf16) (a1 : Vec F S5120 .bf16) (a2 : Vec F S5120x3840 .fp8e4m3) (a3 : Vec F S3840 .f32) : Vec F S10 .f32 :=
  k0_pay20 (k0_pay17 (k0_pay27 a0 a1 a2 a3) (k0_pay28 a0 a1 a2 a3) (View.ld a2 r0_7) (View.ld a3 r0_8))

/-- The one store through the whole rectangle leaves its payload. -/
theorem out7_eq (a0 : Vec F S4x3072x5120 .bf16) (a1 : Vec F S5120 .bf16) (a2 : Vec F S5120x3840 .fp8e4m3) (a3 : Vec F S3840 .f32) : out0_7 (F := F) a0 a1 a2 a3 = G7 a0 a1 a2 a3 := by
  unfold out0_7
  rw [View.canon_unit_zero hz7]

/-- Cutting the point's block out of `X` and reading `X` through the block's view give the same. -/
theorem cut7_eq (t : Fin cfg0.N) (X : Vec F S10 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3)) := by
  show (cfg0.win 7).cut (grid0.coords t) ((dats m 0 c).after 7 t) = _
  rw [after0_7, out7_eq, iblk0_eq, iblk1_eq, iblk2_eq, iblk3_eq]
  exact cut7_eq t _

/-- Every index of the array is in the point's block. -/
theorem covered7 (i : S10.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) :=
  ((dats m 0 c).arrAt_eq_of_cover 7 (G7 (V m c main_arg0) (V m c main_arg1) (V m c main_arg2) (V m c main_arg3)) (fun t _ => flushed7_eq m c t) covered7).trans (by rw [V_main_arg0, V_main_arg1, V_main_arg2, V_main_arg3])

/-! ### Output window 8: the array after the run -/

/-- What the window's array ends holding: `out0_8` applied to the argument arrays in place of the input blocks (a value that the
    frame states apart, `kK_payN a…`, keeps its loads inside its own definition). -/
abbrev G8 (a0 : Vec F S4x3072x5120 .bf16) (a1 : Vec F S5120 .bf16) (a2 : Vec F S5120x3840 .fp8e4m3) (a3 : Vec F S3840 .f32) : Vec F S4x3072x10x128 .fp8e4m3 :=
  k0_pay1 (k0_pay23 (k0_pay27 a0 a1 a2 a3) (k0_pay28 a0 a1 a2 a3) (View.ld a2 r0_9) (View.ld a3 r0_10))

/-- The one store through the whole rectangle leaves its payload. -/
theorem out8_eq (a0 : Vec F S4x3072x5120 .bf16) (a1 : Vec F S5120 .bf16) (a2 : Vec F S5120x3840 .fp8e4m3) (a3 : Vec F S3840 .f32) : out0_8 (F := F) a0 a1 a2 a3 = G8 a0 a1 a2 a3 := by
  unfold out0_8
  rw [View.canon_unit_zero hz8]

/-- Cutting the point's block out of `X` and reading `X` through the block's view give the same. -/
theorem cut8_eq (t : Fin cfg0.N) (X : Vec F S4x3072x10x128 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3)) := by
  show (cfg0.win 8).cut (grid0.coords t) ((dats m 0 c).after 8 t) = _
  rw [after0_8, out8_eq, iblk0_eq, iblk1_eq, iblk2_eq, iblk3_eq]
  exact cut8_eq t _

/-- Every index of the array is in the point's block. -/
theorem covered8 (i : S4x3072x10x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) :=
  ((dats m 0 c).arrAt_eq_of_cover 8 (G8 (V m c main_arg0) (V m c main_arg1) (V m c main_arg2) (V m c main_arg3)) (fun t _ => flushed8_eq m c t) covered8).trans (by rw [V_main_arg0, V_main_arg1, V_main_arg2, V_main_arg3])

/-! ### Output window 9: the array after the run -/

/-- What the window's array ends holding: `out0_9` applied to the argument arrays in place of the input blocks (a value that the
    frame states apart, `kK_payN a…`, keeps its loads inside its own definition). -/
abbrev G9 (a0 : Vec F S4x3072x5120 .bf16) (a1 : Vec F S5120 .bf16) (a2 : Vec F S5120x3840 .fp8e4m3) (a3 : Vec F S3840 .f32) : Vec F S10 .f32 :=
  k0_pay2 (k0_pay22 (k0_pay27 a0 a1 a2 a3) (k0_pay28 a0 a1 a2 a3) (View.ld a2 r0_9) (View.ld a3 r0_10))

/-- The one store through the whole rectangle leaves its payload. -/
theorem out9_eq (a0 : Vec F S4x3072x5120 .bf16) (a1 : Vec F S5120 .bf16) (a2 : Vec F S5120x3840 .fp8e4m3) (a3 : Vec F S3840 .f32) : out0_9 (F := F) a0 a1 a2 a3 = G9 a0 a1 a2 a3 := by
  unfold out0_9
  rw [View.canon_unit_zero hz9]

/-- Cutting the point's block out of `X` and reading `X` through the block's view give the same. -/
theorem cut9_eq (t : Fin cfg0.N) (X : Vec F S10 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3)) := by
  show (cfg0.win 9).cut (grid0.coords t) ((dats m 0 c).after 9 t) = _
  rw [after0_9, out9_eq, iblk0_eq, iblk1_eq, iblk2_eq, iblk3_eq]
  exact cut9_eq t _

/-- Every index of the array is in the point's block. -/
theorem covered9 (i : S10.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) :=
  ((dats m 0 c).arrAt_eq_of_cover 9 (G9 (V m c main_arg0) (V m c main_arg1) (V m c main_arg2) (V m c main_arg3)) (fun t _ => flushed9_eq m c t) covered9).trans (by rw [V_main_arg0, V_main_arg1, V_main_arg2, V_main_arg3])

/-! ### Output window 10: the array after the run -/

/-- What the window's array ends holding: `out0_10` applied to the argument arrays in place of the input blocks (a value that the
    frame states apart, `kK_payN a…`, keeps its loads inside its own definition). -/
abbrev G10 (a0 : Vec F S4x3072x5120 .bf16) (a1 : Vec F S5120 .bf16) (a2 : Vec F S5120x3840 .fp8e4m3) (a3 : Vec F S3840 .f32) : Vec F S4x3072x5120 .fp8e4m3 :=
  k0_pay7 (k0_pay25 a0 a1 a2 a3) (k0_pay26 a0 a1 a2 a3)

/-- The one store through the whole rectangle leaves its payload. -/
theorem out10_eq (a0 : Vec F S4x3072x5120 .bf16) (a1 : Vec F S5120 .bf16) (a2 : Vec F S5120x3840 .fp8e4m3) (a3 : Vec F S3840 .f32) : out0_10 (F := F) a0 a1 a2 a3 = G10 a0 a1 a2 a3 := by
  unfold out0_10
  rw [View.canon_unit_zero hz10]

/-- Cutting the point's block out of `X` and reading `X` through the block's view give the same. -/
theorem cut10_eq (t : Fin cfg0.N) (X : Vec F S4x3072x5120 .fp8e4m3) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3)) := by
  show (cfg0.win 10).cut (grid0.coords t) ((dats m 0 c).after 10 t) = _
  rw [after0_10, out10_eq, iblk0_eq, iblk1_eq, iblk2_eq, iblk3_eq]
  exact cut10_eq t _

/-- Every index of the array is in the point's block. -/
theorem covered10 (i : S4x3072x5120.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) :=
  ((dats m 0 c).arrAt_eq_of_cover 10 (G10 (V m c main_arg0) (V m c main_arg1) (V m c main_arg2) (V m c main_arg3)) (fun t _ => flushed10_eq m c t) covered10).trans (by rw [V_main_arg0, V_main_arg1, V_main_arg2, V_main_arg3])

/-! ### Output window 11: the array after the run -/

/-- What the window's array ends holding: `out0_11` applied to the argument arrays in place of the input blocks (a value that the
    frame states apart, `kK_payN a…`, keeps its loads inside its own definition). -/
abbrev G11 (a0 : Vec F S4x3072x5120 .bf16) (a1 : Vec F S5120 .bf16) (a2 : Vec F S5120x3840 .fp8e4m3) (a3 : Vec F S3840 .f32) : Vec F S4x3072 .f32 :=
  k0_pay8 (k0_pay24 a0 a1 a2 a3)

/-- The one store through the whole rectangle leaves its payload. -/
theorem out11_eq (a0 : Vec F S4x3072x5120 .bf16) (a1 : Vec F S5120 .bf16) (a2 : Vec F S5120x3840 .fp8e4m3) (a3 : Vec F S3840 .f32) : out0_11 (F := F) a0 a1 a2 a3 = G11 a0 a1 a2 a3 := by
  unfold out0_11
  rw [View.canon_unit_zero hz11]

/-- Cutting the point's block out of `X` and reading `X` through the block's view give the same. -/
theorem cut11_eq (t : Fin cfg0.N) (X : Vec F S4x3072 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3)) := by
  show (cfg0.win 11).cut (grid0.coords t) ((dats m 0 c).after 11 t) = _
  rw [after0_11, out11_eq, iblk0_eq, iblk1_eq, iblk2_eq, iblk3_eq]
  exact cut11_eq t _

/-- Every index of the array is in the point's block. -/
theorem covered11 (i : S4x3072.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) :=
  ((dats m 0 c).arrAt_eq_of_cover 11 (G11 (V m c main_arg0) (V m c main_arg1) (V m c main_arg2) (V m c main_arg3)) (fun t _ => flushed11_eq m c t) covered11).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = G7 (m ((c : Thread nD τ).loc main_arg0)) (m ((c : Thread nD τ).loc main_arg1)) (m ((c : Thread nD τ).loc main_arg2)) (m ((c : Thread nD τ).loc main_arg3))
      ∧ r.2.mem ((c : Thread nD τ).loc main_v0_4) = G8 (m ((c : Thread nD τ).loc main_arg0)) (m ((c : Thread nD τ).loc main_arg1)) (m ((c : Thread nD τ).loc main_arg2)) (m ((c : Thread nD τ).loc main_arg3))
      ∧ r.2.mem ((c : Thread nD τ).loc main_v0_5) = G9 (m ((c : Thread nD τ).loc main_arg0)) (m ((c : Thread nD τ).loc main_arg1)) (m ((c : Thread nD τ).loc main_arg2)) (m ((c : Thread nD τ).loc main_arg3))
      ∧ r.2.mem ((c : Thread nD τ).loc main_v0_6) = G10 (m ((c : Thread nD τ).loc main_arg0)) (m ((c : Thread nD τ).loc main_arg1)) (m ((c : Thread nD τ).loc main_arg2)) (m ((c : Thread nD τ).loc main_arg3))
      ∧ r.2.mem ((c : Thread nD τ).loc main_v0_7) = G11 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c⟩)
    (run_main m ρ)

end Cert.ReferenceIdeal.Run

end
-- ==== Proof.Hand.RefRows.lean ====
/- The reference's rows: norm, codes, scales, at an index. -/
module

public import proofs.«01_k».proof.Proof.Hand.RefRun
public import proofs.«01_k».proof.Proof.Hand.Rows
public import Idealize.ShloMosaic.Lib.Pointwise

@[expose] public section

noncomputable section

namespace Cert.RefVal

open Cert.ReferenceIdeal Cert.ReferenceIdeal.Gen Cert.ReferenceIdeal.Run Cert.Val Idealize.ShloMosaic Idealize.ShloMosaic.TcCoe

/-- An upper bound of a maximum over some axes bounds every entry over the index. -/
theorem maxRed_le {s t : Shape} {axes : List (Fin s.rank)} (v : FVec Ideal s .f32) (h : s.Reduces axes t) (j : t.Idx) (b : EReal) :
    multiReduction .maximumf axes t v 0xFF800000#32 h (.inl rfl) rfl j ≤ b ↔ ∀ i, h.drop i = j → v i ≤ b := by
  have e := multiReduction_maximumf_eq_fold (F := Ideal) v 0xFF800000#32 h (.inl rfl) rfl j
  refine (iff_of_eq (congrArg (fun z : EReal => z ≤ b) e)).trans ?_
  refine (fold_max_le_iff (Finset.univ.filter fun i => h.drop i = j) v b).trans ?_
  simp only [Finset.mem_filter, Finset.mem_univ, true_and]

theorem drop3 (b : Fin 4) (s : Fin 3072) (d : Fin 5120) : reduces_S4x3072x5120_S4x3072.drop (ix3 b s d) = ix2 b s := by
  funext k
  fin_cases k
  · exact Fin.ext (reduces_S4x3072x5120_S4x3072.drop_apply_val_of_eq _ 0 0)
  · exact Fin.ext (reduces_S4x3072x5120_S4x3072.drop_apply_val_of_eq _ 1 1)

theorem drop4 (b : Fin 4) (s : Fin 3072) (h : Fin 10) (d : Fin 128) : reduces_S4x3072x10x128_S10.drop (ix4 b s h d) = ix1 h := by
  funext k
  fin_cases k
  exact Fin.ext (reduces_S4x3072x10x128_S10.drop_apply_val_of_eq _ 0 2)
theorem absf_at {s : Shape} (v : FVec Ideal s .f32) (i : s.Idx) : absf v i = av (v i) := rfl
theorem mulb_at {s : Shape} (v : FVec Ideal s .f32) (i : s.Idx) : mulf v (broadcast s (Scalar.ofBits .f32 0x3B124925#32)) i = v i * c448 := rfl

theorem topV_max (h : FVec Ideal S4x3072x5120 .f32) (b : Fin 4) (s : Fin 3072) :
    multiReduction .maximumf [2] S4x3072 (absf h) 0xFF800000#32 reduces_S4x3072x5120_S4x3072 (.inl rfl) rfl (ix2 b s) = ⨆ d, av (h (ix3 b s d)) := by
  refine eq_of_forall_ge_iff fun B => ?_
  refine (maxRed_le (absf h) reduces_S4x3072x5120_S4x3072 (ix2 b s) B).trans ?_
  rw [iSup_le_iff]
  constructor
  · intro H d
    rw [← absf_at]
    exact H _ (drop3 b s d)
  · intro H i hi
    obtain ⟨b', s', d, rfl⟩ : ∃ b' s' d, i = (ix3 b' s' d : S4x3072x5120.Idx) := ⟨i 0, i 1, i 2, eq_ix3 _⟩
    rw [drop3] at hi
    obtain rfl : b' = b := congrFun hi 0
    obtain rfl : s' = s := congrFun hi 1
    rw [absf_at]
    exact H d

/-- The reference's scale exponent of a vector. -/
def expV {s : Shape} (v : FVec Ideal s .f32) : FVec Ideal s .f32 :=
  select (cmpf .olt v (broadcast s (Scalar.ofBits .f32 0x00800000#32))) (broadcast s (Scalar.ofBits .f32 0x00000000#32))
    (minimumf (addf (floor (divf (log v) (log (broadcast s (Scalar.ofBits .f32 0x40000000#32))))) (broadcast s (Scalar.ofBits .f32 0x3F800000#32)))
      (broadcast s (Scalar.ofBits .f32 0x42F00000#32)))
theorem expV_at {s : Shape} (v : FVec Ideal s .f32) (i : s.Idx) : expV v i = expR (v i) := rfl

/-- The largest absolute value of each row, over 448. -/
def topV (h : FVec Ideal S4x3072x5120 .f32) : FVec Ideal S4x3072 .f32 :=
  mulf (multiReduction .maximumf [2] S4x3072 (absf h) 0xFF800000#32 reduces_S4x3072x5120_S4x3072 (.inl rfl) rfl) (broadcast S4x3072 (Scalar.ofBits .f32 0x3B124925#32))

theorem topV_at (h : FVec Ideal S4x3072x5120 .f32) (b : Fin 4) (s : Fin 3072) : topV h (ix2 b s) = (⨆ d, av (h (ix3 b s d))) * c448 :=
  (mulb_at _ _).trans (congrArg (fun z : EReal => z * c448) (topV_max h b s))

theorem topH_max (y : FVec Ideal S4x3072x10x128 .f32) (h : Fin 10) :
    multiReduction .maximumf [0, 1, 3] S10 (absf y) 0xFF800000#32 reduces_S4x3072x10x128_S10 (.inl rfl) rfl (ix1 h) = ⨆ j, ⨆ b, ⨆ s, av (y (ix4 b s h j)) := by
  refine eq_of_forall_ge_iff fun B => ?_
  refine (maxRed_le (absf y) reduces_S4x3072x10x128_S10 (ix1 h) B).trans ?_
  simp only [iSup_le_iff]
  constructor
  · intro H j b s
    rw [← absf_at]
    exact H _ (drop4 b s h j)
  · intro H i hi
    obtain ⟨b, s, h', j, rfl⟩ : ∃ b s h' j, i = (ix4 b s h' j : S4x3072x10x128.Idx) := ⟨i 0, i 1, i 2, i 3, eq_ix4 _⟩
    rw [drop4] at hi
    obtain rfl : h' = h := congrFun hi 0
    rw [absf_at]
    exact H j b s

/-- The largest absolute value of each head, over 448. -/
def topH (y : FVec Ideal S4x3072x10x128 .f32) : FVec Ideal S10 .f32 :=
  mulf (multiReduction .maximumf [0, 1, 3] S10 (absf y) 0xFF800000#32 reduces_S4x3072x10x128_S10 (.inl rfl) rfl) (broadcast S10 (Scalar.ofBits .f32 0x3B124925#32))

theorem topH_at (y : FVec Ideal S4x3072x10x128 .f32) (h : Fin 10) : topH y (ix1 h) = (⨆ j, ⨆ b, ⨆ s, av (y (ix4 b s h j))) * c448 :=
  (mulb_at _ _).trans (congrArg (fun z : EReal => z * c448) (topH_max y h))

/-- The codes from the normalised rows and exponents. -/
def codeV (h : FVec Ideal S4x3072x5120 .f32) (e : FVec Ideal S4x3072 .f32) : FVec Ideal S4x3072x5120 .fp8e4m3 :=
  truncf .fp8e4m3 (minimumf (broadcast S4x3072x5120 (Scalar.ofBits .f32 0x43E00000#32)) (maximumf (broadcast S4x3072x5120 (Scalar.ofBits .f32 0xC3E00000#32))
    (mulf h (broadcastTo S4x3072x5120 (exp2 (subf (broadcast S4x3072x1 (Scalar.ofBits .f32 0x00000000#32)) (shapeCast S4x3072x1 e shapeCasts_S4x3072_S4x3072x1))) broadcasts_S4x3072x1_S4x3072x5120)))) bitsLt_fp8e4m3_f32
theorem codeV_at (h : FVec Ideal S4x3072x5120 .f32) (e : FVec Ideal S4x3072 .f32) (b : Fin 4) (s : Fin 3072) (d : Fin 5120) :
    codeV h e (ix3 b s d) = codeS (h (ix3 b s d)) (Ideal.exp2 (Ideal.ofBits .f32 0x00000000#32 - e (ix2 b s))) := by
  pointwise [codeV]
  rfl

variable (a0 : Vec Ideal S4x3072x5120 .bf16) (a1 : Vec Ideal S5120 .bf16) (a2 : Vec Ideal S5120x3840 .fp8e4m3) (a3 : Vec Ideal S3840 .f32)

def ux (b : Fin 4) (s : Fin 3072) (d : Fin 5120) : EReal := a0 (ix3 b s d)
def ug (d : Fin 5120) : EReal := a1 (ix1 d)
def uw (n : Fin 3840) (d : Fin 5120) : EReal := a2 (ix2 d n)

theorem ld0 : (View.ld a0 r0_0 : Vec Ideal S4x3072x5120 .bf16) = a0 := by
  funext y
  refine congrArg a0 (funext fun d => Fin.ext ((Rect.idx_unit_val _ _ _ _ d).trans ?_))
  fin_cases d <;> exact Nat.zero_add _
theorem ld1 : (View.ld a1 r0_1 : Vec Ideal S5120 .bf16) = a1 := by
  funext y
  refine congrArg a1 (funext fun d => Fin.ext ((Rect.idx_unit_val _ _ _ _ d).trans ?_))
  fin_cases d
  exact Nat.zero_add _

theorem norm_at (b : Fin 4) (s : Fin 3072) (d : Fin 5120) : k0_pay3 (F := Ideal) a0 a1 (ix3 b s d) = hS (ux a0 b s) (ug a1) d := by
  pointwise [k0_pay3]
  rfl

theorem pay4_eq : k0_pay4 (F := Ideal) a0 a1 = expV (topV (k0_pay3 a0 a1)) := rfl
theorem pay7_eq : k0_pay7 (F := Ideal) (k0_pay5 a0 a1) k0_pay6 = codeV (k0_pay3 a0 a1) (k0_pay4 a0 a1) := rfl
theorem exp2_at {s : Shape} (v : FVec Ideal s .f32) (i : s.Idx) : exp2 v i = Ideal.exp2 (v i) := rfl
theorem pay8_eq (e : FVec Ideal S4x3072 .f32) : k0_pay8 (F := Ideal) e = exp2 e := rfl

/-- The exponent of a row. -/
theorem rowE_at (b : Fin 4) (s : Fin 3072) : k0_pay4 (F := Ideal) a0 a1 (ix2 b s) = expR (rowVS (ux a0 b s) (ug a1)) := by
  rw [pay4_eq, expV_at, topV_at]
  unfold rowVS
  simp only [norm_at]

theorem rowC_at (b : Fin 4) (s : Fin 3072) (d : Fin 5120) : k0_pay7 (F := Ideal) (k0_pay5 a0 a1) k0_pay6 (ix3 b s d) = xcode (ux a0 b s) (ug a1) d := by
  rw [pay7_eq, codeV_at, norm_at, rowE_at, c_zero]
  unfold xcode invR
  rfl

theorem rowS_at (b : Fin 4) (s : Fin 3072) : k0_pay8 (F := Ideal) (k0_pay4 a0 a1) (ix2 b s) = xscale (ux a0 b s) (ug a1) := by
  rw [pay8_eq, exp2_at, rowE_at]
  unfold xscale scaleR
  rfl

theorem G10_at (b : Fin 4) (s : Fin 3072) (d : Fin 5120) : G10 (F := Ideal) a0 a1 a2 a3 (ix3 b s d) = xcode (ux a0 b s) (ug a1) d := by
  unfold G10 k0_pay25 k0_pay26
  rw [ld0, ld1]
  exact rowC_at a0 a1 b s d
theorem G11_at (b : Fin 4) (s : Fin 3072) : G11 (F := Ideal) a0 a1 a2 a3 (ix2 b s) = xscale (ux a0 b s) (ug a1) := by
  unfold G11 k0_pay24
  rw [ld0, ld1]
  exact rowS_at a0 a1 b s

end Cert.RefVal
-- ==== Proof.Hand.RefHeads.lean ====
/- The reference's heads: products, codes, scales, at an index. -/
module

public import proofs.«01_k».proof.Proof.Hand.RefRows
public import proofs.«01_k».proof.Proof.Hand.Result
public import Idealize.ShloMosaic.Lib.Pointwise

@[expose] public section

noncomputable section

namespace Cert.RefVal

open Cert.ReferenceIdeal Cert.ReferenceIdeal.Gen Cert.ReferenceIdeal.Run Cert.Val Idealize.ShloMosaic Idealize.ShloMosaic.TcCoe

/-- Lane `j` of head `h` within a group of ten. -/
def gcol (h : Fin 10) (j : Fin 128) : Fin 1280 := ⟨128 * h + j, by omega⟩

section Group
variable (q : FVec Ideal S12288x5120 .fp8e4m3) (t : FVec Ideal S12288x1 .f32) (w : Vec Ideal S5120x1280 .fp8e4m3) (sc : Vec Ideal S1280 .f32)

theorem y_at (b : Fin 4) (s : Fin 3072) (h : Fin 10) (j : Fin 128) : k0_pay16 (F := Ideal) q t w sc (ix4 b s h j)
    = (∑ k, q (ix2 (frow b s) k) * w (ix2 k (gcol h j))) * t (ix2 (frow b s) 0) * sc (ix1 (gcol h j)) := by
  pointwise [k0_pay16]
  have e1 : (⟨b * 3072 + s, by omega⟩ : Fin 12288) = frow b s := Fin.ext (by simp only [frow]; omega)
  have e2 : (⟨h * 128 + j, by omega⟩ : Fin 1280) = gcol h j := Fin.ext (by simp only [gcol]; omega)
  have H : ∀ (r r' : Fin 12288) (n n' : Fin 1280), r = r' → n = n' →
      (∑ k, q (ix2 r k) * w (ix2 k n)) * t (ix2 r 0) * sc (ix1 n) = (∑ k, q (ix2 r' k) * w (ix2 k n')) * t (ix2 r' 0) * sc (ix1 n') := by
    rintro r r' n n' rfl rfl; rfl
  exact H _ _ _ _ e1 e2

/-- The codes from the products and exponents. -/
def codeW (y : FVec Ideal S4x3072x10x128 .f32) (e : FVec Ideal S10 .f32) : FVec Ideal S4x3072x10x128 .fp8e4m3 :=
  truncf .fp8e4m3 (minimumf (broadcast S4x3072x10x128 (Scalar.ofBits .f32 0x43E00000#32)) (maximumf (broadcast S4x3072x10x128 (Scalar.ofBits .f32 0xC3E00000#32))
    (mulf y (broadcastTo S4x3072x10x128 (exp2 (subf (broadcast S1x1x10x1 (Scalar.ofBits .f32 0x00000000#32)) (shapeCast S1x1x10x1 e shapeCasts_S10_S1x1x10x1))) broadcasts_S1x1x10x1_S4x3072x10x128)))) bitsLt_fp8e4m3_f32
theorem codeW_at (y : FVec Ideal S4x3072x10x128 .f32) (e : FVec Ideal S10 .f32) (b : Fin 4) (s : Fin 3072) (h : Fin 10) (j : Fin 128) :
    codeW y e (ix4 b s h j) = codeS (y (ix4 b s h j)) (Ideal.exp2 (0 - e (ix1 h))) := by
  pointwise [codeW]
  rfl

theorem pay17_eq : k0_pay17 (F := Ideal) q t w sc = expV (topH (k0_pay16 q t w sc)) := rfl
theorem pay19_eq : k0_pay19 (F := Ideal) (k0_pay18 q t w sc) (Scalar.ofBits .f32 0xC3E00000#32) = codeW (k0_pay16 q t w sc) (k0_pay17 q t w sc) := rfl
theorem pay20_eq : k0_pay20 (F := Ideal) (k0_pay17 q t w sc) = exp2 (k0_pay17 q t w sc) := rfl
theorem pay1_eq : k0_pay1 (F := Ideal) (k0_pay23 q t w sc) = k0_pay19 (k0_pay18 q t w sc) (Scalar.ofBits .f32 0xC3E00000#32) := rfl
theorem pay2_eq : k0_pay2 (F := Ideal) (k0_pay22 q t w sc) = k0_pay20 (k0_pay17 q t w sc) := rfl

/-! The same at the group's columns of the arguments. -/

variable (a0 : Vec Ideal S4x3072x5120 .bf16) (a1 : Vec Ideal S5120 .bf16) (a2 : Vec Ideal S5120x3840 .fp8e4m3) (a3 : Vec Ideal S3840 .f32) (g : Fin 3)
  (hq : ∀ b s k, q (ix2 (frow b s) k) = xcode (ux a0 b s) (ug a1) k) (ht : ∀ b s, t (ix2 (frow b s) 0) = xscale (ux a0 b s) (ug a1))
  (hw : ∀ k h j, w (ix2 k (gcol h j)) = a2 (ix2 k (hcol (headOf g h) j))) (hs : ∀ h j, sc (ix1 (gcol h j)) = a3 (ix1 (hcol (headOf g h) j)))
include hq ht hw hs

theorem yg_at (b : Fin 4) (s : Fin 3072) (h : Fin 10) (j : Fin 128) : k0_pay16 (F := Ideal) q t w sc (ix4 b s h j) = projW a0 a1 a2 a3 b s (hcol (headOf g h) j) := by
  rw [y_at, ht, hs]
  simp only [hq, hw]
  rfl

theorem eg_at (h : Fin 10) : k0_pay17 (F := Ideal) q t w sc (ix1 h) = expR (topS a0 a1 a2 a3 (headOf g h)) := by
  rw [pay17_eq, expV_at, topH_at]
  unfold topS
  simp only [yg_at q t w sc a0 a1 a2 a3 g hq ht hw hs]

theorem cg_at (b : Fin 4) (s : Fin 3072) (h : Fin 10) (j : Fin 128) :
    k0_pay19 (F := Ideal) (k0_pay18 q t w sc) (Scalar.ofBits .f32 0xC3E00000#32) (ix4 b s h j) = resCode a0 a1 a2 a3 g b s h j := by
  rw [pay19_eq, codeW_at, yg_at q t w sc a0 a1 a2 a3 g hq ht hw hs, eg_at q t w sc a0 a1 a2 a3 g hq ht hw hs]
  rfl

theorem sg_at (h : Fin 10) : k0_pay20 (F := Ideal) (k0_pay17 q t w sc) (ix1 h) = resScale a0 a1 a2 a3 g h := by
  rw [pay20_eq, exp2_at, eg_at q t w sc a0 a1 a2 a3 g hq ht hw hs]
  rfl
end Group

variable (a0 : Vec Ideal S4x3072x5120 .bf16) (a1 : Vec Ideal S5120 .bf16) (a2 : Vec Ideal S5120x3840 .fp8e4m3) (a3 : Vec Ideal S3840 .f32)

theorem q_at (b : Fin 4) (s : Fin 3072) (k : Fin 5120) : k0_pay27 (F := Ideal) a0 a1 a2 a3 (ix2 (frow b s) k) = xcode (ux a0 b s) (ug a1) k := by
  unfold k0_pay27 k0_pay25 k0_pay26
  rw [ld0, ld1, ← rowC_at]
  unfold k0_pay9 frow
  generalize k0_pay7 (F := Ideal) (k0_pay5 a0 a1) k0_pay6 = v
  pointwise

theorem t_at (b : Fin 4) (s : Fin 3072) : k0_pay28 (F := Ideal) a0 a1 a2 a3 (ix2 (frow b s) 0) = xscale (ux a0 b s) (ug a1) := by
  unfold k0_pay28 k0_pay24
  rw [ld0, ld1, ← rowS_at]
  unfold k0_pay10 frow
  generalize k0_pay8 (F := Ideal) (k0_pay4 a0 a1) = v
  pointwise

theorem ldw (o : ℕ) {inb} (g : Fin 3) (ho : o = 1280 * g) (k : Fin 5120) (h : Fin 10) (j : Fin 128) :
    (View.ld a2 (Rect.unit (s := S5120x3840) ![0, o] S5120x1280.size inb) : Vec Ideal S5120x1280 .fp8e4m3) (ix2 k (gcol h j)) = a2 (ix2 k (hcol (headOf g h) j)) :=
  congrArg a2 (emb2 (s0 := 5120) (s1 := 1280) k (gcol h j) k (hcol (headOf g h) j) (Nat.zero_add _).symm (by simp only [gcol, hcol, headOf]; omega))

theorem lds (o : ℕ) {inb} (g : Fin 3) (ho : o = 1280 * g) (h : Fin 10) (j : Fin 128) :
    (View.ld a3 (Rect.unit (s := S3840) ![o] S1280.size inb) : Vec Ideal S1280 .f32) (ix1 (gcol h j)) = a3 (ix1 (hcol (headOf g h) j)) := by
  refine congrArg a3 (funext fun d => Fin.ext ((Rect.idx_unit_val _ _ _ _ d).trans ?_))
  fin_cases d
  show o + (gcol h j : ℕ) = (hcol (headOf g h) j : ℕ)
  simp only [gcol, hcol, headOf]; omega

theorem G6_at (b : Fin 4) (s : Fin 3072) (h : Fin 10) (j : Fin 128) : G6 (F := Ideal) a0 a1 a2 a3 (ix4 b s h j) = resCode a0 a1 a2 a3 1 b s h j :=
  cg_at _ _ _ _ a0 a1 a2 a3 1 (q_at a0 a1 a2 a3) (t_at a0 a1 a2 a3) (ldw a2 1280 1 rfl) (lds a3 1280 1 rfl) b s h j
theorem G7_at (h : Fin 10) : G7 (F := Ideal) a0 a1 a2 a3 (ix1 h) = resScale a0 a1 a2 a3 1 h :=
  sg_at _ _ _ _ a0 a1 a2 a3 1 (q_at a0 a1 a2 a3) (t_at a0 a1 a2 a3) (ldw a2 1280 1 rfl) (lds a3 1280 1 rfl) h
theorem G8_at (b : Fin 4) (s : Fin 3072) (h : Fin 10) (j : Fin 128) : G8 (F := Ideal) a0 a1 a2 a3 (ix4 b s h j) = resCode a0 a1 a2 a3 2 b s h j := by
  unfold G8
  rw [pay1_eq]
  exact cg_at _ _ _ _ a0 a1 a2 a3 2 (q_at a0 a1 a2 a3) (t_at a0 a1 a2 a3) (ldw a2 2560 2 rfl) (lds a3 2560 2 rfl) b s h j
theorem G9_at (h : Fin 10) : G9 (F := Ideal) a0 a1 a2 a3 (ix1 h) = resScale a0 a1 a2 a3 2 h := by
  unfold G9
  rw [pay2_eq]
  exact sg_at _ _ _ _ a0 a1 a2 a3 2 (q_at a0 a1 a2 a3) (t_at a0 a1 a2 a3) (ldw a2 2560 2 rfl) (lds a3 2560 2 rfl) h

theorem G4_eq : G4 (F := Ideal) a0 a1 a2 a3
    = k0_pay19 (k0_pay18 (k0_pay27 a0 a1 a2 a3) (k0_pay28 a0 a1 a2 a3) (View.ld a2 r0_3) (View.ld a3 r0_4)) (Scalar.ofBits .f32 0xC3E00000#32) := rfl
theorem G5_eq : G5 (F := Ideal) a0 a1 a2 a3
    = k0_pay20 (k0_pay17 (k0_pay27 a0 a1 a2 a3) (k0_pay28 a0 a1 a2 a3) (View.ld a2 r0_3) (View.ld a3 r0_4)) := rfl
theorem G4_at (b : Fin 4) (s : Fin 3072) (h : Fin 10) (j : Fin 128) : G4 (F := Ideal) a0 a1 a2 a3 (ix4 b s h j) = resCode a0 a1 a2 a3 0 b s h j := by
  rw [G4_eq]
  exact cg_at _ _ _ _ a0 a1 a2 a3 0 (q_at a0 a1 a2 a3) (t_at a0 a1 a2 a3) (ldw a2 0 0 rfl) (lds a3 0 0 rfl) b s h j
theorem G5_at (h : Fin 10) : G5 (F := Ideal) a0 a1 a2 a3 (ix1 h) = resScale a0 a1 a2 a3 0 h := by
  rw [G5_eq]
  exact sg_at _ _ _ _ a0 a1 a2 a3 0 (q_at a0 a1 a2 a3) (t_at a0 a1 a2 a3) (ldw a2 0 0 rfl) (lds a3 0 0 rfl) h

end Cert.RefVal
-- ==== Proof.Hand.Equal.lean ====
/- The two programs' results agree at equal arguments. -/
module

public import proofs.«01_k».proof.Defs
public import proofs.«01_k».proof.Proof.Hand.KernelRun
public import proofs.«01_k».proof.Proof.Hand.Result
public import proofs.«01_k».proof.Proof.Hand.RefHeads

@[expose] public section

noncomputable section

namespace Cert.Equal

open Cert.Val Cert.RefVal Idealize.ShloMosaic Idealize.ShloMosaic.TcCoe Idealize.SL.Sem
open Cert.KernelIdeal.Gen (W5)

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem ext4 {e : EltTy} {n0 n1 n2 n3 : ℕ} (f g : Vec Ideal ⟨4, ![n0, n1, n2, n3]⟩ e) (h : ∀ a b c d, f (ix4 a b c d) = g (ix4 a b c d)) : f = g := by
  funext y
  obtain ⟨a, b, c, d, rfl⟩ : ∃ a b c d, y = (ix4 a b c d : (⟨4, ![n0, n1, n2, n3]⟩ : Shape).Idx) := ⟨y 0, y 1, y 2, y 3, eq_ix4 _⟩
  exact h a b c d
theorem ext3 {e : EltTy} {n0 n1 n2 : ℕ} (f g : Vec Ideal ⟨3, ![n0, n1, n2]⟩ e) (h : ∀ a b c, f (ix3 a b c) = g (ix3 a b c)) : f = g := by
  funext y
  obtain ⟨a, b, c, rfl⟩ : ∃ a b c, y = (ix3 a b c : (⟨3, ![n0, n1, n2]⟩ : Shape).Idx) := ⟨y 0, y 1, y 2, eq_ix3 _⟩
  exact h a b c
theorem ext2 {e : EltTy} {n0 n1 : ℕ} (f g : Vec Ideal ⟨2, ![n0, n1]⟩ e) (h : ∀ a b, f (ix2 a b) = g (ix2 a b)) : f = g := by
  funext y
  obtain ⟨a, b, rfl⟩ : ∃ a b, y = (ix2 a b : (⟨2, ![n0, n1]⟩ : Shape).Idx) := ⟨y 0, y 1, eq_ix2 _⟩
  exact h a b
theorem ext1 {e : EltTy} {n0 : ℕ} (f g : Vec Ideal ⟨1, ![n0]⟩ e) (h : ∀ a, f (ix1 a) = g (ix1 a)) : f = g := by
  funext y
  obtain ⟨a, rfl⟩ : ∃ a, y = (ix1 a : (⟨1, ![n0]⟩ : Shape).Idx) := ⟨y 0, eq_ix1 _⟩
  exact h a

open Cert.ReferenceIdeal.Run

theorem eq0 : G4 (F := Ideal) (g0 m c) (g1 m c) (g2 m c) (g3 m c) = W5 m ρ c (Proc.devRef .tc Cert.KernelIdeal.main_v8) :=
  ext4 _ (W5 m ρ c (Proc.devRef .tc Cert.KernelIdeal.main_v8) : Vec Ideal Cert.KernelIdeal.S4x3072x10x128 .fp8e4m3) fun b s h j => (G4_at _ _ _ _ b s h j).trans (kres_8 m ρ c b s h j).symm
theorem eq1 : G5 (F := Ideal) (g0 m c) (g1 m c) (g2 m c) (g3 m c) = W5 m ρ c (Proc.devRef .tc Cert.KernelIdeal.main_v9) :=
  ext1 _ (W5 m ρ c (Proc.devRef .tc Cert.KernelIdeal.main_v9) : Vec Ideal Cert.KernelIdeal.S10 .f32) fun h => (G5_at _ _ _ _ h).trans (kres_9 m ρ c h).symm
theorem eq2 : G6 (F := Ideal) (g0 m c) (g1 m c) (g2 m c) (g3 m c) = W5 m ρ c (Proc.devRef .tc Cert.KernelIdeal.main_v10) :=
  ext4 _ (W5 m ρ c (Proc.devRef .tc Cert.KernelIdeal.main_v10) : Vec Ideal Cert.KernelIdeal.S4x3072x10x128 .fp8e4m3) fun b s h j => (G6_at _ _ _ _ b s h j).trans (kres_10 m ρ c b s h j).symm
theorem eq3 : G7 (F := Ideal) (g0 m c) (g1 m c) (g2 m c) (g3 m c) = W5 m ρ c (Proc.devRef .tc Cert.KernelIdeal.main_v11) :=
  ext1 _ (W5 m ρ c (Proc.devRef .tc Cert.KernelIdeal.main_v11) : Vec Ideal Cert.KernelIdeal.S10 .f32) fun h => (G7_at _ _ _ _ h).trans (kres_11 m ρ c h).symm
theorem eq4 : G8 (F := Ideal) (g0 m c) (g1 m c) (g2 m c) (g3 m c) = W5 m ρ c (Proc.devRef .tc Cert.KernelIdeal.main_v12) :=
  ext4 _ (W5 m ρ c (Proc.devRef .tc Cert.KernelIdeal.main_v12) : Vec Ideal Cert.KernelIdeal.S4x3072x10x128 .fp8e4m3) fun b s h j => (G8_at _ _ _ _ b s h j).trans (kres_12 m ρ c b s h j).symm
theorem eq5 : G9 (F := Ideal) (g0 m c) (g1 m c) (g2 m c) (g3 m c) = W5 m ρ c (Proc.devRef .tc Cert.KernelIdeal.main_v13) :=
  ext1 _ (W5 m ρ c (Proc.devRef .tc Cert.KernelIdeal.main_v13) : Vec Ideal Cert.KernelIdeal.S10 .f32) fun h => (G9_at _ _ _ _ h).trans (kres_13 m ρ c h).symm
theorem eq6 : G10 (F := Ideal) (g0 m c) (g1 m c) (g2 m c) (g3 m c) = W5 m ρ c (Proc.devRef .tc Cert.KernelIdeal.main_v14) :=
  ext3 _ (W5 m ρ c (Proc.devRef .tc Cert.KernelIdeal.main_v14) : Vec Ideal Cert.KernelIdeal.S4x3072x5120 .fp8e4m3) fun b s d => (G10_at _ _ _ _ b s d).trans (kres_14 m ρ c b s d).symm
theorem eq7 : G11 (F := Ideal) (g0 m c) (g1 m c) (g2 m c) (g3 m c) = W5 m ρ c (Proc.devRef .tc Cert.KernelIdeal.main_v17) :=
  ext2 _ (W5 m ρ c (Proc.devRef .tc Cert.KernelIdeal.main_v17) : Vec Ideal Cert.KernelIdeal.S4x3072 .f32) fun b s => (G11_at _ _ _ _ b s).trans (kres_17 m ρ c b s).symm

/-- The value claim. -/
theorem algebraic : Cert.algebraic_KernelIdeal_ReferenceIdeal := by
  intro m ρ m' ρ' _ hargs
  refine ⟨fun c => W5 m ρ c (Proc.devRef .tc Cert.KernelIdeal.main_v8), fun c => W5 m ρ c (Proc.devRef .tc Cert.KernelIdeal.main_v9),
    fun c => W5 m ρ c (Proc.devRef .tc Cert.KernelIdeal.main_v10), fun c => W5 m ρ c (Proc.devRef .tc Cert.KernelIdeal.main_v11),
    fun c => W5 m ρ c (Proc.devRef .tc Cert.KernelIdeal.main_v12), fun c => W5 m ρ c (Proc.devRef .tc Cert.KernelIdeal.main_v13),
    fun c => W5 m ρ c (Proc.devRef .tc Cert.KernelIdeal.main_v14), fun c => W5 m ρ c (Proc.devRef .tc Cert.KernelIdeal.main_v17), ?_, ?_⟩
  · refine (θ_run _ _ _).mono (fun r h c => ?_) (Cert.KernelIdeal.Hand.run m ρ)
    obtain ⟨⟨h0, h1, h2, h3, h4, h5, h6, h7⟩, k0, k1, k2, k3⟩ := h c
    exact ⟨h0, h1, h2, h3, h4, h5, h6, h7, k0, k1, k2, k3⟩
  · refine (θ_run _ _ _).mono (fun r h c => ?_) (Cert.ReferenceIdeal.Run.run (F := Ideal) m' ρ')
    obtain ⟨h0, h1, h2, h3, h4, h5, h6, h7, k0, k1, k2, k3⟩ := h c
    obtain ⟨a0, a1, a2, a3⟩ := hargs c
    rw [a0, a1, a2, a3] at h0 h1 h2 h3 h4 h5 h6 h7
    exact ⟨h0.trans (eq0 m ρ c), h1.trans (eq1 m ρ c), h2.trans (eq2 m ρ c), h3.trans (eq3 m ρ c), h4.trans (eq4 m ρ c),
      h5.trans (eq5 m ρ c), h6.trans (eq6 m ρ c), h7.trans (eq7 m ρ c), k0, k1, k2, k3⟩

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Hand.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial,
  Cert.Equal.algebraic⟩

end Cert.Proof

end
